-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v26)) (v3 : (c : Dev Cert.KernelIdeal.nD) → Buf (Elt Ideal) ((c.tc : Thread Cert.KernelIdeal.nD Cert.KernelIdeal.τ).loc Cert.KernelIdeal.main_v27)) (v4 : (c : Dev Cert.KernelIdeal.nD) → Buf (Elt Ideal) ((c.tc : Thread Cert.KernelIdeal.nD Cert.KernelIdeal.τ).loc Cert.KernelIdeal.main_v28)) (v5 : (c : Dev Cert.KernelIdeal.nD) → Buf (Elt Ideal) ((c.tc : Thread Cert.KernelIdeal.nD Cert.KernelIdeal.τ).loc Cert.KernelIdeal.main_v29)) (v6 : (c : Dev Cert.KernelIdeal.nD) → Buf (Elt Ideal) ((c.tc : Thread Cert.KernelIdeal.nD Cert.KernelIdeal.τ).loc Cert.KernelIdeal.main_v30)) (v7 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_v27) = v3 c
          ∧ r.2.mem ((c.tc : Thread Cert.KernelIdeal.nD Cert.KernelIdeal.τ).loc Cert.KernelIdeal.main_v28) = v4 c
          ∧ r.2.mem ((c.tc : Thread Cert.KernelIdeal.nD Cert.KernelIdeal.τ).loc Cert.KernelIdeal.main_v29) = v5 c
          ∧ r.2.mem ((c.tc : Thread Cert.KernelIdeal.nD Cert.KernelIdeal.τ).loc Cert.KernelIdeal.main_v30) = v6 c
          ∧ r.2.mem ((c.tc : Thread Cert.KernelIdeal.nD Cert.KernelIdeal.τ).loc Cert.KernelIdeal.main_v31) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_v158) = v1 c
          ∧ r.2.mem ((c.tc : Thread Cert.ReferenceIdeal.nD Cert.ReferenceIdeal.τ).loc Cert.ReferenceIdeal.main_v110) = v2 c
          ∧ r.2.mem ((c.tc : Thread Cert.ReferenceIdeal.nD Cert.ReferenceIdeal.τ).loc Cert.ReferenceIdeal.main_v120) = v3 c
          ∧ r.2.mem ((c.tc : Thread Cert.ReferenceIdeal.nD Cert.ReferenceIdeal.τ).loc Cert.ReferenceIdeal.main_v150) = v4 c
          ∧ r.2.mem ((c.tc : Thread Cert.ReferenceIdeal.nD Cert.ReferenceIdeal.τ).loc Cert.ReferenceIdeal.main_v133) = v5 c
          ∧ r.2.mem ((c.tc : Thread Cert.ReferenceIdeal.nD Cert.ReferenceIdeal.τ).loc Cert.ReferenceIdeal.main_v103) = v6 c
          ∧ r.2.mem ((c.tc : Thread Cert.ReferenceIdeal.nD Cert.ReferenceIdeal.τ).loc Cert.ReferenceIdeal.main_v156) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x2048 : Shape := ⟨3, ![4, 4096, 2048]⟩
abbrev S16x2048 : Shape := ⟨2, ![16, 2048]⟩
abbrev S16384x2048 : Shape := ⟨2, ![16384, 2048]⟩
abbrev S_ : Shape := ⟨0, ![]⟩
abbrev S1 : Shape := ⟨1, ![1]⟩
abbrev S2 : Shape := ⟨1, ![2]⟩
abbrev S1x1 : Shape := ⟨2, ![1, 1]⟩
abbrev S16384x16 : Shape := ⟨2, ![16384, 16]⟩
abbrev S2048x16 : Shape := ⟨2, ![2048, 16]⟩
abbrev S16384x32 : Shape := ⟨2, ![16384, 32]⟩
abbrev S1x16 : Shape := ⟨2, ![1, 16]⟩
abbrev S512x2048 : Shape := ⟨2, ![512, 2048]⟩
abbrev S2048x32 : Shape := ⟨2, ![2048, 32]⟩
abbrev S512x16 : Shape := ⟨2, ![512, 16]⟩
abbrev S512 : Shape := ⟨1, ![512]⟩
abbrev S512x1 : Shape := ⟨2, ![512, 1]⟩
abbrev S512x32 : Shape := ⟨2, ![512, 32]⟩
abbrev S16 : Shape := ⟨1, ![16]⟩
abbrev S1x1x16 : Shape := ⟨3, ![1, 1, 16]⟩
abbrev S1x1x1 : Shape := ⟨3, ![1, 1, 1]⟩
abbrev S4x4096x16x2 : Shape := ⟨4, ![4, 4096, 16, 2]⟩

abbrev nBuf : Space → Nat
  | .hbm => 311
  | .vmem => 25
  | .smem => 0
  | _ => 0

abbrev hbmTy0_0 (i : Nat) : BufTy := match i % 128 with
  | 0 => ⟨S4x4096x2048, .f32⟩
  | 1 => ⟨S16x2048, .f32⟩
  | 2 => ⟨S16384x2048, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S_, .f32⟩
  | 14 => ⟨S_, .f32⟩
  | 15 => ⟨S_, .f32⟩
  | 16 => ⟨S_, .f32⟩
  | 17 => ⟨S1x1, .f32⟩
  | 18 => ⟨S1x1, .f32⟩
  | 19 => ⟨S1, .i32⟩
  | 20 => ⟨S_, .i32⟩
  | 21 => ⟨S1, .i32⟩
  | 22 => ⟨S_, .i32⟩
  | 23 => ⟨S16384x16, .i64⟩
  | 24 => ⟨S16384x16, .i64⟩
  | 25 => ⟨S_, .i64⟩
  | 26 => ⟨S16384x16, .i64⟩
  | 27 => ⟨S16384x16, .i64⟩
  | 28 => ⟨S_, .i64⟩
  | 29 => ⟨S16384x16, .i64⟩
  | 30 => ⟨S16384x16, .i64⟩
  | 31 => ⟨S16384x16, .i64⟩
  | 32 => ⟨S_, .i64⟩
  | 33 => ⟨S16384x16, .i64⟩
  | 34 => ⟨S16384x16, .i64⟩
  | 35 => ⟨S16384x16, .i32⟩
  | 36 => ⟨S16384x16, .i32⟩
  | 37 => ⟨S_, .i32⟩
  | 38 => ⟨S_, .i32⟩
  | 39 => ⟨S_, .i32⟩
  | 40 => ⟨S16384x16, .i32⟩
  | 41 => ⟨S16384x16, .i32⟩
  | 42 => ⟨S16384x16, .i32⟩
  | 43 => ⟨S16384x16, .i32⟩
  | 44 => ⟨S16384x16, .i32⟩
  | 45 => ⟨S_, .i32⟩
  | 46 => ⟨S16384x16, .i32⟩
  | 47 => ⟨S16384x16, .i32⟩
  | 48 => ⟨S_, .i32⟩
  | 49 => ⟨S16384x16, .i32⟩
  | 50 => ⟨S16384x16, .i32⟩
  | 51 => ⟨S16384x16, .i32⟩
  | 52 => ⟨S16384x16, .i32⟩
  | 53 => ⟨S16384x16, .i32⟩
  | 54 => ⟨S_, .i32⟩
  | 55 => ⟨S16384x16, .i32⟩
  | 56 => ⟨S16384x16, .i32⟩
  | 57 => ⟨S_, .i32⟩
  | 58 => ⟨S16384x16, .i32⟩
  | 59 => ⟨S16384x16, .i32⟩
  | 60 => ⟨S16384x16, .i32⟩
  | 61 => ⟨S16384x16, .i32⟩
  | 62 => ⟨S16384x16, .i32⟩
  | 63 => ⟨S_, .i32⟩
  | 64 => ⟨S16384x16, .i32⟩
  | 65 => ⟨S16384x16, .i32⟩
  | 66 => ⟨S_, .i32⟩
  | 67 => ⟨S16384x16, .i32⟩
  | 68 => ⟨S16384x16, .i32⟩
  | 69 => ⟨S16384x16, .i32⟩
  | 70 => ⟨S16384x16, .i32⟩
  | 71 => ⟨S16384x16, .i32⟩
  | 72 => ⟨S_, .i32⟩
  | 73 => ⟨S16384x16, .i32⟩
  | 74 => ⟨S16384x16, .i32⟩
  | 75 => ⟨S_, .i32⟩
  | 76 => ⟨S16384x16, .i32⟩
  | 77 => ⟨S16384x16, .i32⟩
  | 78 => ⟨S16384x16, .i32⟩
  | 79 => ⟨S16384x16, .i32⟩
  | 80 => ⟨S16384x16, .i32⟩
  | 81 => ⟨S16384x16, .i32⟩
  | 82 => ⟨S16384x16, .i32⟩
  | 83 => ⟨S16384x16, .i32⟩
  | 84 => ⟨S_, .i32⟩
  | 85 => ⟨S16384x16, .i32⟩
  | 86 => ⟨S16384x16, .i32⟩
  | 87 => ⟨S16384x16, .i32⟩
  | 88 => ⟨S_, .i32⟩
  | 89 => ⟨S16384x16, .i32⟩
  | 90 => ⟨S16384x16, .i32⟩
  | 91 => ⟨S_, .i32⟩
  | 92 => ⟨S16384x16, .i32⟩
  | 93 => ⟨S16384x16, .i32⟩
  | 94 => ⟨S16384x16, .i32⟩
  | 95 => ⟨S16384x16, .i32⟩
  | 96 => ⟨S16384x16, .i32⟩
  | 97 => ⟨S_, .i32⟩
  | 98 => ⟨S16384x16, .i32⟩
  | 99 => ⟨S16384x16, .i32⟩
  | 100 => ⟨S_, .i32⟩
  | 101 => ⟨S16384x16, .i32⟩
  | 102 => ⟨S16384x16, .i32⟩
  | 103 => ⟨S16384x16, .i32⟩
  | 104 => ⟨S16384x16, .i32⟩
  | 105 => ⟨S16384x16, .i32⟩
  | 106 => ⟨S_, .i32⟩
  | 107 => ⟨S16384x16, .i32⟩
  | 108 => ⟨S16384x16, .i32⟩
  | 109 => ⟨S_, .i32⟩
  | 110 => ⟨S16384x16, .i32⟩
  | 111 => ⟨S16384x16, .i32⟩
  | 112 => ⟨S16384x16, .i32⟩
  | 113 => ⟨S16384x16, .i32⟩
  | 114 => ⟨S16384x16, .i32⟩
  | 115 => ⟨S_, .i32⟩
  | 116 => ⟨S16384x16, .i32⟩
  | 117 => ⟨S16384x16, .i32⟩
  | 118 => ⟨S_, .i32⟩
  | 119 => ⟨S16384x16, .i32⟩
  | 120 => ⟨S16384x16, .i32⟩
  | 121 => ⟨S16384x16, .i32⟩
  | 122 => ⟨S16384x16, .i32⟩
  | 123 => ⟨S16384x16, .i32⟩
  | 124 => ⟨S16384x16, .i32⟩
  | 125 => ⟨S16384x16, .i32⟩
  | 126 => ⟨S16384x16, .i32⟩
  | 127 => ⟨S_, .i32⟩
  | _ => ⟨S4x4096x2048, .f32⟩

abbrev hbmTy0_1 (i : Nat) : BufTy := match i % 128 with
  | 0 => ⟨S16384x16, .i32⟩
  | 1 => ⟨S16384x16, .i32⟩
  | 2 => ⟨S16384x16, .i32⟩
  | 3 => ⟨S_, .i32⟩
  | 4 => ⟨S16384x16, .i32⟩
  | 5 => ⟨S16384x16, .i32⟩
  | 6 => ⟨S_, .i32⟩
  | 7 => ⟨S16384x16, .i32⟩
  | 8 => ⟨S16384x16, .i32⟩
  | 9 => ⟨S16384x16, .i32⟩
  | 10 => ⟨S16384x16, .i32⟩
  | 11 => ⟨S16384x16, .i32⟩
  | 12 => ⟨S_, .i32⟩
  | 13 => ⟨S16384x16, .i32⟩
  | 14 => ⟨S16384x16, .i32⟩
  | 15 => ⟨S_, .i32⟩
  | 16 => ⟨S16384x16, .i32⟩
  | 17 => ⟨S16384x16, .i32⟩
  | 18 => ⟨S16384x16, .i32⟩
  | 19 => ⟨S16384x16, .i32⟩
  | 20 => ⟨S16384x16, .i32⟩
  | 21 => ⟨S_, .i32⟩
  | 22 => ⟨S16384x16, .i32⟩
  | 23 => ⟨S16384x16, .i32⟩
  | 24 => ⟨S_, .i32⟩
  | 25 => ⟨S16384x16, .i32⟩
  | 26 => ⟨S16384x16, .i32⟩
  | 27 => ⟨S16384x16, .i32⟩
  | 28 => ⟨S16384x16, .i32⟩
  | 29 => ⟨S16384x16, .i32⟩
  | 30 => ⟨S_, .i32⟩
  | 31 => ⟨S16384x16, .i32⟩
  | 32 => ⟨S16384x16, .i32⟩
  | 33 => ⟨S_, .i32⟩
  | 34 => ⟨S16384x16, .i32⟩
  | 35 => ⟨S16384x16, .i32⟩
  | 36 => ⟨S16384x16, .i32⟩
  | 37 => ⟨S16384x16, .i32⟩
  | 38 => ⟨S16384x16, .i32⟩
  | 39 => ⟨S16384x16, .i32⟩
  | 40 => ⟨S16384x16, .i32⟩
  | 41 => ⟨S16384x16, .i32⟩
  | 42 => ⟨S_, .i32⟩
  | 43 => ⟨S16384x16, .i32⟩
  | 44 => ⟨S16384x16, .i32⟩
  | 45 => ⟨S16384x16, .i32⟩
  | 46 => ⟨S_, .i32⟩
  | 47 => ⟨S16384x16, .i32⟩
  | 48 => ⟨S16384x16, .i32⟩
  | 49 => ⟨S_, .i32⟩
  | 50 => ⟨S16384x16, .i32⟩
  | 51 => ⟨S16384x16, .i32⟩
  | 52 => ⟨S16384x16, .i32⟩
  | 53 => ⟨S16384x16, .i32⟩
  | 54 => ⟨S16384x16, .i32⟩
  | 55 => ⟨S_, .i32⟩
  | 56 => ⟨S16384x16, .i32⟩
  | 57 => ⟨S16384x16, .i32⟩
  | 58 => ⟨S_, .i32⟩
  | 59 => ⟨S16384x16, .i32⟩
  | 60 => ⟨S16384x16, .i32⟩
  | 61 => ⟨S16384x16, .i32⟩
  | 62 => ⟨S16384x16, .i32⟩
  | 63 => ⟨S16384x16, .i32⟩
  | 64 => ⟨S_, .i32⟩
  | 65 => ⟨S16384x16, .i32⟩
  | 66 => ⟨S16384x16, .i32⟩
  | 67 => ⟨S_, .i32⟩
  | 68 => ⟨S16384x16, .i32⟩
  | 69 => ⟨S16384x16, .i32⟩
  | 70 => ⟨S16384x16, .i32⟩
  | 71 => ⟨S16384x16, .i32⟩
  | 72 => ⟨S16384x16, .i32⟩
  | 73 => ⟨S_, .i32⟩
  | 74 => ⟨S16384x16, .i32⟩
  | 75 => ⟨S16384x16, .i32⟩
  | 76 => ⟨S_, .i32⟩
  | 77 => ⟨S16384x16, .i32⟩
  | 78 => ⟨S16384x16, .i32⟩
  | 79 => ⟨S16384x16, .i32⟩
  | 80 => ⟨S16384x16, .i32⟩
  | 81 => ⟨S16384x16, .i32⟩
  | 82 => ⟨S16384x16, .i32⟩
  | 83 => ⟨S16384x16, .i32⟩
  | 84 => ⟨S16384x16, .i32⟩
  | 85 => ⟨S_, .i32⟩
  | 86 => ⟨S16384x16, .i32⟩
  | 87 => ⟨S16384x16, .i32⟩
  | 88 => ⟨S16384x16, .i32⟩
  | 89 => ⟨S_, .i32⟩
  | 90 => ⟨S16384x16, .i32⟩
  | 91 => ⟨S16384x16, .i32⟩
  | 92 => ⟨S_, .i32⟩
  | 93 => ⟨S16384x16, .i32⟩
  | 94 => ⟨S16384x16, .i32⟩
  | 95 => ⟨S16384x16, .i32⟩
  | 96 => ⟨S16384x16, .i32⟩
  | 97 => ⟨S16384x16, .i32⟩
  | 98 => ⟨S_, .i32⟩
  | 99 => ⟨S16384x16, .i32⟩
  | 100 => ⟨S16384x16, .i32⟩
  | 101 => ⟨S_, .i32⟩
  | 102 => ⟨S16384x16, .i32⟩
  | 103 => ⟨S16384x16, .i32⟩
  | 104 => ⟨S16384x16, .i32⟩
  | 105 => ⟨S16384x16, .i32⟩
  | 106 => ⟨S16384x16, .i32⟩
  | 107 => ⟨S_, .i32⟩
  | 108 => ⟨S16384x16, .i32⟩
  | 109 => ⟨S16384x16, .i32⟩
  | 110 => ⟨S_, .i32⟩
  | 111 => ⟨S16384x16, .i32⟩
  | 112 => ⟨S16384x16, .i32⟩
  | 113 => ⟨S16384x16, .i32⟩
  | 114 => ⟨S16384x16, .i32⟩
  | 115 => ⟨S16384x16, .i32⟩
  | 116 => ⟨S_, .i32⟩
  | 117 => ⟨S16384x16, .i32⟩
  | 118 => ⟨S16384x16, .i32⟩
  | 119 => ⟨S_, .i32⟩
  | 120 => ⟨S16384x16, .i32⟩
  | 121 => ⟨S16384x16, .i32⟩
  | 122 => ⟨S16384x16, .i32⟩
  | 123 => ⟨S16384x16, .i32⟩
  | 124 => ⟨S16384x16, .i32⟩
  | 125 => ⟨S16384x16, .i32⟩
  | 126 => ⟨S16384x16, .i32⟩
  | 127 => ⟨S16384x16, .i32⟩
  | _ => ⟨S4x4096x2048, .f32⟩

abbrev hbmTy0_2 (i : Nat) : BufTy := match i % 128 with
  | 0 => ⟨S_, .i32⟩
  | 1 => ⟨S16384x16, .i32⟩
  | 2 => ⟨S16384x16, .i32⟩
  | 3 => ⟨S16384x16, .i32⟩
  | 4 => ⟨S_, .i32⟩
  | 5 => ⟨S16384x16, .i32⟩
  | 6 => ⟨S16384x16, .i32⟩
  | 7 => ⟨S_, .i32⟩
  | 8 => ⟨S16384x16, .i32⟩
  | 9 => ⟨S16384x16, .i32⟩
  | 10 => ⟨S16384x16, .f32⟩
  | 11 => ⟨S_, .f32⟩
  | 12 => ⟨S16384x16, .f32⟩
  | 13 => ⟨S16384x16, .f32⟩
  | 14 => ⟨S1x1, .f32⟩
  | 15 => ⟨S16384x16, .f32⟩
  | 16 => ⟨S16384x16, .f32⟩
  | 17 => ⟨S16384x16, .f32⟩
  | 18 => ⟨S16384x16, .f32⟩
  | 19 => ⟨S16384x16, .f32⟩
  | 20 => ⟨S16384x16, .f32⟩
  | 21 => ⟨S_, .f32⟩
  | 22 => ⟨S16384x16, .f32⟩
  | 23 => ⟨S16384x16, .f32⟩
  | 24 => ⟨S16384x16, .f32⟩
  | 25 => ⟨S16384x16, .f32⟩
  | 26 => ⟨S_, .f32⟩
  | 27 => ⟨S16384x16, .f32⟩
  | 28 => ⟨S16384x16, .f32⟩
  | 29 => ⟨S16384x16, .f32⟩
  | 30 => ⟨S16384x16, .f32⟩
  | 31 => ⟨S_, .f32⟩
  | 32 => ⟨S16384x16, .f32⟩
  | 33 => ⟨S16384x16, .f32⟩
  | 34 => ⟨S2048x16, .f32⟩
  | 35 => ⟨S16384x32, .i32⟩
  | 36 => ⟨S16384x32, .f32⟩
  | 37 => ⟨S1x16, .f32⟩
  | 38 => ⟨S1x1, .f32⟩
  | 39 => ⟨S1x1, .f32⟩
  | 40 => ⟨S1x1, .f32⟩
  | 41 => ⟨S1x1, .f32⟩
  | 42 => ⟨S1x1, .f32⟩
  | 43 => ⟨S_, .i32⟩
  | 44 => ⟨S16384x32, .i32⟩
  | 45 => ⟨S16384x32, .i1⟩
  | 46 => ⟨S16384x32, .i1⟩
  | 47 => ⟨S4x4096x16x2, .i1⟩
  | 48 => ⟨S4x4096x16x2, .f32⟩
  | 49 => ⟨S_, .f32⟩
  | 50 => ⟨S_, .f32⟩
  | 51 => ⟨S_, .f32⟩
  | 52 => ⟨S_, .f32⟩
  | 53 => ⟨S16, .f32⟩
  | 54 => ⟨S_, .f32⟩
  | _ => ⟨S4x4096x2048, .f32⟩

abbrev hbmTy (i : Nat) : BufTy := match i / 128 with
  | 0 => hbmTy0_0 i
  | 1 => hbmTy0_1 i
  | 2 => hbmTy0_2 i
  | _ => ⟨S4x4096x2048, .f32⟩

abbrev bufTy : (tb : Table) → Fin (tcTables nBuf tb) → BufTy
  | .hbm, ⟨i, _⟩ => hbmTy i
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S2048x16, .f32⟩
  | .local _ .vmem, ⟨9, _⟩ => ⟨S2048x16, .f32⟩
  | .local _ .vmem, ⟨10, _⟩ => ⟨S2048x16, .f32⟩
  | .local _ .vmem, ⟨11, _⟩ => ⟨S2048x32, .i32⟩
  | .local _ .vmem, ⟨12, _⟩ => ⟨S2048x32, .i32⟩
  | .local _ .vmem, ⟨13, _⟩ => ⟨S2048x32, .f32⟩
  | .local _ .vmem, ⟨14, _⟩ => ⟨S2048x32, .f32⟩
  | .local _ .vmem, ⟨15, _⟩ => ⟨S1x16, .f32⟩
  | .local _ .vmem, ⟨16, _⟩ => ⟨S1x1, .f32⟩
  | .local _ .vmem, ⟨17, _⟩ => ⟨S1x1, .f32⟩
  | .local _ .vmem, ⟨18, _⟩ => ⟨S1x1, .f32⟩
  | .local _ .vmem, ⟨19, _⟩ => ⟨S1x1, .f32⟩
  | .local _ .vmem, ⟨20, _⟩ => ⟨S1x1, .f32⟩
  | .local _ .vmem, ⟨21, _⟩ => ⟨S1x16, .f32⟩
  | .local _ .vmem, ⟨22, _⟩ => ⟨S1x16, .f32⟩
  | .local _ .vmem, ⟨23, _⟩ => ⟨S1x1, .f32⟩
  | .local _ .vmem, ⟨24, _⟩ => ⟨S1x1, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_c : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_c_1 : Ref sig .tc := ⟨.hbm, 32, rfl⟩
abbrev main_call0_v15 : Ref sig .tc := ⟨.hbm, 33, rfl⟩
abbrev main_call0_v16 : Ref sig .tc := ⟨.hbm, 34, rfl⟩
abbrev main_call0_v17 : Ref sig .tc := ⟨.hbm, 35, rfl⟩
abbrev main_call0_v18 : Ref sig .tc := ⟨.hbm, 36, rfl⟩
abbrev main_call0_call0_v0 : Ref sig .tc := ⟨.hbm, 37, rfl⟩
abbrev main_call0_call0_c : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_c_0 : Ref sig .tc := ⟨.hbm, 45, rfl⟩
abbrev main_call0_call0_v7 : Ref sig .tc := ⟨.hbm, 46, rfl⟩
abbrev main_call0_call0_v8 : Ref sig .tc := ⟨.hbm, 47, rfl⟩
abbrev main_call0_call0_c_1 : Ref sig .tc := ⟨.hbm, 48, rfl⟩
abbrev main_call0_call0_v9 : Ref sig .tc := ⟨.hbm, 49, rfl⟩
abbrev main_call0_call0_v10 : Ref sig .tc := ⟨.hbm, 50, rfl⟩
abbrev main_call0_call0_v11 : Ref sig .tc := ⟨.hbm, 51, rfl⟩
abbrev main_call0_call0_v12 : Ref sig .tc := ⟨.hbm, 52, rfl⟩
abbrev main_call0_call0_v13 : Ref sig .tc := ⟨.hbm, 53, rfl⟩
abbrev main_call0_call0_c_2 : Ref sig .tc := ⟨.hbm, 54, rfl⟩
abbrev main_call0_call0_v14 : Ref sig .tc := ⟨.hbm, 55, rfl⟩
abbrev main_call0_call0_v15 : Ref sig .tc := ⟨.hbm, 56, rfl⟩
abbrev main_call0_call0_c_3 : Ref sig .tc := ⟨.hbm, 57, rfl⟩
abbrev main_call0_call0_v16 : Ref sig .tc := ⟨.hbm, 58, rfl⟩
abbrev main_call0_call0_v17 : Ref sig .tc := ⟨.hbm, 59, rfl⟩
abbrev main_call0_call0_v18 : Ref sig .tc := ⟨.hbm, 60, rfl⟩
abbrev main_call0_call0_v19 : Ref sig .tc := ⟨.hbm, 61, rfl⟩
abbrev main_call0_call0_v20 : Ref sig .tc := ⟨.hbm, 62, rfl⟩
abbrev main_call0_call0_c_4 : Ref sig .tc := ⟨.hbm, 63, rfl⟩
abbrev main_call0_call0_v21 : Ref sig .tc := ⟨.hbm, 64, rfl⟩
abbrev main_call0_call0_v22 : Ref sig .tc := ⟨.hbm, 65, rfl⟩
abbrev main_call0_call0_c_5 : Ref sig .tc := ⟨.hbm, 66, rfl⟩
abbrev main_call0_call0_v23 : Ref sig .tc := ⟨.hbm, 67, rfl⟩
abbrev main_call0_call0_v24 : Ref sig .tc := ⟨.hbm, 68, rfl⟩
abbrev main_call0_call0_v25 : Ref sig .tc := ⟨.hbm, 69, rfl⟩
abbrev main_call0_call0_v26 : Ref sig .tc := ⟨.hbm, 70, rfl⟩
abbrev main_call0_call0_v27 : Ref sig .tc := ⟨.hbm, 71, rfl⟩
abbrev main_call0_call0_c_6 : Ref sig .tc := ⟨.hbm, 72, rfl⟩
abbrev main_call0_call0_v28 : Ref sig .tc := ⟨.hbm, 73, rfl⟩
abbrev main_call0_call0_v29 : Ref sig .tc := ⟨.hbm, 74, rfl⟩
abbrev main_call0_call0_c_7 : Ref sig .tc := ⟨.hbm, 75, rfl⟩
abbrev main_call0_call0_v30 : Ref sig .tc := ⟨.hbm, 76, rfl⟩
abbrev main_call0_call0_v31 : Ref sig .tc := ⟨.hbm, 77, rfl⟩
abbrev main_call0_call0_v32 : Ref sig .tc := ⟨.hbm, 78, rfl⟩
abbrev main_call0_call0_v33 : Ref sig .tc := ⟨.hbm, 79, rfl⟩
abbrev main_call0_call0_v34 : Ref sig .tc := ⟨.hbm, 80, rfl⟩
abbrev main_call0_call0_v35 : Ref sig .tc := ⟨.hbm, 81, rfl⟩
abbrev main_call0_call0_v36 : Ref sig .tc := ⟨.hbm, 82, rfl⟩
abbrev main_call0_call0_v37 : Ref sig .tc := ⟨.hbm, 83, rfl⟩
abbrev main_call0_call0_c_8 : Ref sig .tc := ⟨.hbm, 84, rfl⟩
abbrev main_call0_call0_v38 : Ref sig .tc := ⟨.hbm, 85, rfl⟩
abbrev main_call0_call0_v39 : Ref sig .tc := ⟨.hbm, 86, rfl⟩
abbrev main_call0_call0_v40 : Ref sig .tc := ⟨.hbm, 87, rfl⟩
abbrev main_call0_call0_c_9 : Ref sig .tc := ⟨.hbm, 88, rfl⟩
abbrev main_call0_call0_v41 : Ref sig .tc := ⟨.hbm, 89, rfl⟩
abbrev main_call0_call0_v42 : Ref sig .tc := ⟨.hbm, 90, rfl⟩
abbrev main_call0_call0_c_10 : Ref sig .tc := ⟨.hbm, 91, rfl⟩
abbrev main_call0_call0_v43 : Ref sig .tc := ⟨.hbm, 92, rfl⟩
abbrev main_call0_call0_v44 : Ref sig .tc := ⟨.hbm, 93, rfl⟩
abbrev main_call0_call0_v45 : Ref sig .tc := ⟨.hbm, 94, rfl⟩
abbrev main_call0_call0_v46 : Ref sig .tc := ⟨.hbm, 95, rfl⟩
abbrev main_call0_call0_v47 : Ref sig .tc := ⟨.hbm, 96, rfl⟩
abbrev main_call0_call0_c_11 : Ref sig .tc := ⟨.hbm, 97, rfl⟩
abbrev main_call0_call0_v48 : Ref sig .tc := ⟨.hbm, 98, rfl⟩
abbrev main_call0_call0_v49 : Ref sig .tc := ⟨.hbm, 99, rfl⟩
abbrev main_call0_call0_c_12 : Ref sig .tc := ⟨.hbm, 100, rfl⟩
abbrev main_call0_call0_v50 : Ref sig .tc := ⟨.hbm, 101, rfl⟩
abbrev main_call0_call0_v51 : Ref sig .tc := ⟨.hbm, 102, rfl⟩
abbrev main_call0_call0_v52 : Ref sig .tc := ⟨.hbm, 103, rfl⟩
abbrev main_call0_call0_v53 : Ref sig .tc := ⟨.hbm, 104, rfl⟩
abbrev main_call0_call0_v54 : Ref sig .tc := ⟨.hbm, 105, rfl⟩
abbrev main_call0_call0_c_13 : Ref sig .tc := ⟨.hbm, 106, rfl⟩
abbrev main_call0_call0_v55 : Ref sig .tc := ⟨.hbm, 107, rfl⟩
abbrev main_call0_call0_v56 : Ref sig .tc := ⟨.hbm, 108, rfl⟩
abbrev main_call0_call0_c_14 : Ref sig .tc := ⟨.hbm, 109, rfl⟩
abbrev main_call0_call0_v57 : Ref sig .tc := ⟨.hbm, 110, rfl⟩
abbrev main_call0_call0_v58 : Ref sig .tc := ⟨.hbm, 111, rfl⟩
abbrev main_call0_call0_v59 : Ref sig .tc := ⟨.hbm, 112, rfl⟩
abbrev main_call0_call0_v60 : Ref sig .tc := ⟨.hbm, 113, rfl⟩
abbrev main_call0_call0_v61 : Ref sig .tc := ⟨.hbm, 114, rfl⟩
abbrev main_call0_call0_c_15 : Ref sig .tc := ⟨.hbm, 115, rfl⟩
abbrev main_call0_call0_v62 : Ref sig .tc := ⟨.hbm, 116, rfl⟩
abbrev main_call0_call0_v63 : Ref sig .tc := ⟨.hbm, 117, rfl⟩
abbrev main_call0_call0_c_16 : Ref sig .tc := ⟨.hbm, 118, rfl⟩
abbrev main_call0_call0_v64 : Ref sig .tc := ⟨.hbm, 119, rfl⟩
abbrev main_call0_call0_v65 : Ref sig .tc := ⟨.hbm, 120, rfl⟩
abbrev main_call0_call0_v66 : Ref sig .tc := ⟨.hbm, 121, rfl⟩
abbrev main_call0_call0_v67 : Ref sig .tc := ⟨.hbm, 122, rfl⟩
abbrev main_call0_call0_v68 : Ref sig .tc := ⟨.hbm, 123, rfl⟩
abbrev main_call0_call0_v69 : Ref sig .tc := ⟨.hbm, 124, rfl⟩
abbrev main_call0_call0_v70 : Ref sig .tc := ⟨.hbm, 125, rfl⟩
abbrev main_call0_call0_v71 : Ref sig .tc := ⟨.hbm, 126, rfl⟩
abbrev main_call0_call0_c_17 : Ref sig .tc := ⟨.hbm, 127, rfl⟩
abbrev main_call0_call0_v72 : Ref sig .tc := ⟨.hbm, 128, rfl⟩
abbrev main_call0_call0_v73 : Ref sig .tc := ⟨.hbm, 129, rfl⟩
abbrev main_call0_call0_v74 : Ref sig .tc := ⟨.hbm, 130, rfl⟩
abbrev main_call0_call0_c_18 : Ref sig .tc := ⟨.hbm, 131, rfl⟩
abbrev main_call0_call0_v75 : Ref sig .tc := ⟨.hbm, 132, rfl⟩
abbrev main_call0_call0_v76 : Ref sig .tc := ⟨.hbm, 133, rfl⟩
abbrev main_call0_call0_c_19 : Ref sig .tc := ⟨.hbm, 134, rfl⟩
abbrev main_call0_call0_v77 : Ref sig .tc := ⟨.hbm, 135, rfl⟩
abbrev main_call0_call0_v78 : Ref sig .tc := ⟨.hbm, 136, rfl⟩
abbrev main_call0_call0_v79 : Ref sig .tc := ⟨.hbm, 137, rfl⟩
abbrev main_call0_call0_v80 : Ref sig .tc := ⟨.hbm, 138, rfl⟩
abbrev main_call0_call0_v81 : Ref sig .tc := ⟨.hbm, 139, rfl⟩
abbrev main_call0_call0_c_20 : Ref sig .tc := ⟨.hbm, 140, rfl⟩
abbrev main_call0_call0_v82 : Ref sig .tc := ⟨.hbm, 141, rfl⟩
abbrev main_call0_call0_v83 : Ref sig .tc := ⟨.hbm, 142, rfl⟩
abbrev main_call0_call0_c_21 : Ref sig .tc := ⟨.hbm, 143, rfl⟩
abbrev main_call0_call0_v84 : Ref sig .tc := ⟨.hbm, 144, rfl⟩
abbrev main_call0_call0_v85 : Ref sig .tc := ⟨.hbm, 145, rfl⟩
abbrev main_call0_call0_v86 : Ref sig .tc := ⟨.hbm, 146, rfl⟩
abbrev main_call0_call0_v87 : Ref sig .tc := ⟨.hbm, 147, rfl⟩
abbrev main_call0_call0_v88 : Ref sig .tc := ⟨.hbm, 148, rfl⟩
abbrev main_call0_call0_c_22 : Ref sig .tc := ⟨.hbm, 149, rfl⟩
abbrev main_call0_call0_v89 : Ref sig .tc := ⟨.hbm, 150, rfl⟩
abbrev main_call0_call0_v90 : Ref sig .tc := ⟨.hbm, 151, rfl⟩
abbrev main_call0_call0_c_23 : Ref sig .tc := ⟨.hbm, 152, rfl⟩
abbrev main_call0_call0_v91 : Ref sig .tc := ⟨.hbm, 153, rfl⟩
abbrev main_call0_call0_v92 : Ref sig .tc := ⟨.hbm, 154, rfl⟩
abbrev main_call0_call0_v93 : Ref sig .tc := ⟨.hbm, 155, rfl⟩
abbrev main_call0_call0_v94 : Ref sig .tc := ⟨.hbm, 156, rfl⟩
abbrev main_call0_call0_v95 : Ref sig .tc := ⟨.hbm, 157, rfl⟩
abbrev main_call0_call0_c_24 : Ref sig .tc := ⟨.hbm, 158, rfl⟩
abbrev main_call0_call0_v96 : Ref sig .tc := ⟨.hbm, 159, rfl⟩
abbrev main_call0_call0_v97 : Ref sig .tc := ⟨.hbm, 160, rfl⟩
abbrev main_call0_call0_c_25 : Ref sig .tc := ⟨.hbm, 161, rfl⟩
abbrev main_call0_call0_v98 : Ref sig .tc := ⟨.hbm, 162, rfl⟩
abbrev main_call0_call0_v99 : Ref sig .tc := ⟨.hbm, 163, rfl⟩
abbrev main_call0_call0_v100 : Ref sig .tc := ⟨.hbm, 164, rfl⟩
abbrev main_call0_call0_v101 : Ref sig .tc := ⟨.hbm, 165, rfl⟩
abbrev main_call0_call0_v102 : Ref sig .tc := ⟨.hbm, 166, rfl⟩
abbrev main_call0_call0_v103 : Ref sig .tc := ⟨.hbm, 167, rfl⟩
abbrev main_call0_call0_v104 : Ref sig .tc := ⟨.hbm, 168, rfl⟩
abbrev main_call0_call0_v105 : Ref sig .tc := ⟨.hbm, 169, rfl⟩
abbrev main_call0_call0_c_26 : Ref sig .tc := ⟨.hbm, 170, rfl⟩
abbrev main_call0_call0_v106 : Ref sig .tc := ⟨.hbm, 171, rfl⟩
abbrev main_call0_call0_v107 : Ref sig .tc := ⟨.hbm, 172, rfl⟩
abbrev main_call0_call0_v108 : Ref sig .tc := ⟨.hbm, 173, rfl⟩
abbrev main_call0_call0_c_27 : Ref sig .tc := ⟨.hbm, 174, rfl⟩
abbrev main_call0_call0_v109 : Ref sig .tc := ⟨.hbm, 175, rfl⟩
abbrev main_call0_call0_v110 : Ref sig .tc := ⟨.hbm, 176, rfl⟩
abbrev main_call0_call0_c_28 : Ref sig .tc := ⟨.hbm, 177, rfl⟩
abbrev main_call0_call0_v111 : Ref sig .tc := ⟨.hbm, 178, rfl⟩
abbrev main_call0_call0_v112 : Ref sig .tc := ⟨.hbm, 179, rfl⟩
abbrev main_call0_call0_v113 : Ref sig .tc := ⟨.hbm, 180, rfl⟩
abbrev main_call0_call0_v114 : Ref sig .tc := ⟨.hbm, 181, rfl⟩
abbrev main_call0_call0_v115 : Ref sig .tc := ⟨.hbm, 182, rfl⟩
abbrev main_call0_call0_c_29 : Ref sig .tc := ⟨.hbm, 183, rfl⟩
abbrev main_call0_call0_v116 : Ref sig .tc := ⟨.hbm, 184, rfl⟩
abbrev main_call0_call0_v117 : Ref sig .tc := ⟨.hbm, 185, rfl⟩
abbrev main_call0_call0_c_30 : Ref sig .tc := ⟨.hbm, 186, rfl⟩
abbrev main_call0_call0_v118 : Ref sig .tc := ⟨.hbm, 187, rfl⟩
abbrev main_call0_call0_v119 : Ref sig .tc := ⟨.hbm, 188, rfl⟩
abbrev main_call0_call0_v120 : Ref sig .tc := ⟨.hbm, 189, rfl⟩
abbrev main_call0_call0_v121 : Ref sig .tc := ⟨.hbm, 190, rfl⟩
abbrev main_call0_call0_v122 : Ref sig .tc := ⟨.hbm, 191, rfl⟩
abbrev main_call0_call0_c_31 : Ref sig .tc := ⟨.hbm, 192, rfl⟩
abbrev main_call0_call0_v123 : Ref sig .tc := ⟨.hbm, 193, rfl⟩
abbrev main_call0_call0_v124 : Ref sig .tc := ⟨.hbm, 194, rfl⟩
abbrev main_call0_call0_c_32 : Ref sig .tc := ⟨.hbm, 195, rfl⟩
abbrev main_call0_call0_v125 : Ref sig .tc := ⟨.hbm, 196, rfl⟩
abbrev main_call0_call0_v126 : Ref sig .tc := ⟨.hbm, 197, rfl⟩
abbrev main_call0_call0_v127 : Ref sig .tc := ⟨.hbm, 198, rfl⟩
abbrev main_call0_call0_v128 : Ref sig .tc := ⟨.hbm, 199, rfl⟩
abbrev main_call0_call0_v129 : Ref sig .tc := ⟨.hbm, 200, rfl⟩
abbrev main_call0_call0_c_33 : Ref sig .tc := ⟨.hbm, 201, rfl⟩
abbrev main_call0_call0_v130 : Ref sig .tc := ⟨.hbm, 202, rfl⟩
abbrev main_call0_call0_v131 : Ref sig .tc := ⟨.hbm, 203, rfl⟩
abbrev main_call0_call0_c_34 : Ref sig .tc := ⟨.hbm, 204, rfl⟩
abbrev main_call0_call0_v132 : Ref sig .tc := ⟨.hbm, 205, rfl⟩
abbrev main_call0_call0_v133 : Ref sig .tc := ⟨.hbm, 206, rfl⟩
abbrev main_call0_call0_v134 : Ref sig .tc := ⟨.hbm, 207, rfl⟩
abbrev main_call0_call0_v135 : Ref sig .tc := ⟨.hbm, 208, rfl⟩
abbrev main_call0_call0_v136 : Ref sig .tc := ⟨.hbm, 209, rfl⟩
abbrev main_call0_call0_v137 : Ref sig .tc := ⟨.hbm, 210, rfl⟩
abbrev main_call0_call0_v138 : Ref sig .tc := ⟨.hbm, 211, rfl⟩
abbrev main_call0_call0_v139 : Ref sig .tc := ⟨.hbm, 212, rfl⟩
abbrev main_call0_call0_c_35 : Ref sig .tc := ⟨.hbm, 213, rfl⟩
abbrev main_call0_call0_v140 : Ref sig .tc := ⟨.hbm, 214, rfl⟩
abbrev main_call0_call0_v141 : Ref sig .tc := ⟨.hbm, 215, rfl⟩
abbrev main_call0_call0_v142 : Ref sig .tc := ⟨.hbm, 216, rfl⟩
abbrev main_call0_call0_c_36 : Ref sig .tc := ⟨.hbm, 217, rfl⟩
abbrev main_call0_call0_v143 : Ref sig .tc := ⟨.hbm, 218, rfl⟩
abbrev main_call0_call0_v144 : Ref sig .tc := ⟨.hbm, 219, rfl⟩
abbrev main_call0_call0_c_37 : Ref sig .tc := ⟨.hbm, 220, rfl⟩
abbrev main_call0_call0_v145 : Ref sig .tc := ⟨.hbm, 221, rfl⟩
abbrev main_call0_call0_v146 : Ref sig .tc := ⟨.hbm, 222, rfl⟩
abbrev main_call0_call0_v147 : Ref sig .tc := ⟨.hbm, 223, rfl⟩
abbrev main_call0_call0_v148 : Ref sig .tc := ⟨.hbm, 224, rfl⟩
abbrev main_call0_call0_v149 : Ref sig .tc := ⟨.hbm, 225, rfl⟩
abbrev main_call0_call0_c_38 : Ref sig .tc := ⟨.hbm, 226, rfl⟩
abbrev main_call0_call0_v150 : Ref sig .tc := ⟨.hbm, 227, rfl⟩
abbrev main_call0_call0_v151 : Ref sig .tc := ⟨.hbm, 228, rfl⟩
abbrev main_call0_call0_c_39 : Ref sig .tc := ⟨.hbm, 229, rfl⟩
abbrev main_call0_call0_v152 : Ref sig .tc := ⟨.hbm, 230, rfl⟩
abbrev main_call0_call0_v153 : Ref sig .tc := ⟨.hbm, 231, rfl⟩
abbrev main_call0_call0_v154 : Ref sig .tc := ⟨.hbm, 232, rfl⟩
abbrev main_call0_call0_v155 : Ref sig .tc := ⟨.hbm, 233, rfl⟩
abbrev main_call0_call0_v156 : Ref sig .tc := ⟨.hbm, 234, rfl⟩
abbrev main_call0_call0_c_40 : Ref sig .tc := ⟨.hbm, 235, rfl⟩
abbrev main_call0_call0_v157 : Ref sig .tc := ⟨.hbm, 236, rfl⟩
abbrev main_call0_call0_v158 : Ref sig .tc := ⟨.hbm, 237, rfl⟩
abbrev main_call0_call0_c_41 : Ref sig .tc := ⟨.hbm, 238, rfl⟩
abbrev main_call0_call0_v159 : Ref sig .tc := ⟨.hbm, 239, rfl⟩
abbrev main_call0_call0_v160 : Ref sig .tc := ⟨.hbm, 240, rfl⟩
abbrev main_call0_call0_v161 : Ref sig .tc := ⟨.hbm, 241, rfl⟩
abbrev main_call0_call0_v162 : Ref sig .tc := ⟨.hbm, 242, rfl⟩
abbrev main_call0_call0_v163 : Ref sig .tc := ⟨.hbm, 243, rfl⟩
abbrev main_call0_call0_c_42 : Ref sig .tc := ⟨.hbm, 244, rfl⟩
abbrev main_call0_call0_v164 : Ref sig .tc := ⟨.hbm, 245, rfl⟩
abbrev main_call0_call0_v165 : Ref sig .tc := ⟨.hbm, 246, rfl⟩
abbrev main_call0_call0_c_43 : Ref sig .tc := ⟨.hbm, 247, rfl⟩
abbrev main_call0_call0_v166 : Ref sig .tc := ⟨.hbm, 248, rfl⟩
abbrev main_call0_call0_v167 : Ref sig .tc := ⟨.hbm, 249, rfl⟩
abbrev main_call0_call0_v168 : Ref sig .tc := ⟨.hbm, 250, rfl⟩
abbrev main_call0_call0_v169 : Ref sig .tc := ⟨.hbm, 251, rfl⟩
abbrev main_call0_call0_v170 : Ref sig .tc := ⟨.hbm, 252, rfl⟩
abbrev main_call0_v19_0 : Ref sig .tc := ⟨.hbm, 253, rfl⟩
abbrev main_call0_call0_v172 : Ref sig .tc := ⟨.hbm, 254, rfl⟩
abbrev main_call0_call0_v173 : Ref sig .tc := ⟨.hbm, 255, rfl⟩
abbrev main_call0_call0_c_44 : Ref sig .tc := ⟨.hbm, 256, rfl⟩
abbrev main_call0_call0_v174 : Ref sig .tc := ⟨.hbm, 257, rfl⟩
abbrev main_call0_v19_1 : Ref sig .tc := ⟨.hbm, 258, rfl⟩
abbrev main_call0_v20 : Ref sig .tc := ⟨.hbm, 259, rfl⟩
abbrev main_call0_c_2 : Ref sig .tc := ⟨.hbm, 260, rfl⟩
abbrev main_call0_v21 : Ref sig .tc := ⟨.hbm, 261, rfl⟩
abbrev main_call0_v22 : Ref sig .tc := ⟨.hbm, 262, rfl⟩
abbrev main_call0_c_3 : Ref sig .tc := ⟨.hbm, 263, rfl⟩
abbrev main_call0_v23 : Ref sig .tc := ⟨.hbm, 264, rfl⟩
abbrev main_call0_v24 : Ref sig .tc := ⟨.hbm, 265, rfl⟩
abbrev main_call0_v25 : Ref sig .tc := ⟨.hbm, 266, rfl⟩
abbrev main_call0_cst : Ref sig .tc := ⟨.hbm, 267, rfl⟩
abbrev main_call0_v26 : Ref sig .tc := ⟨.hbm, 268, rfl⟩
abbrev main_call0_v27 : Ref sig .tc := ⟨.hbm, 269, rfl⟩
abbrev main_call0_v28 : Ref sig .tc := ⟨.hbm, 270, rfl⟩
abbrev main_call0_v29 : Ref sig .tc := ⟨.hbm, 271, rfl⟩
abbrev main_call0_v30 : Ref sig .tc := ⟨.hbm, 272, rfl⟩
abbrev main_call0_v31 : Ref sig .tc := ⟨.hbm, 273, rfl⟩
abbrev main_call0_v32 : Ref sig .tc := ⟨.hbm, 274, rfl⟩
abbrev main_call0_v33 : Ref sig .tc := ⟨.hbm, 275, rfl⟩
abbrev main_v8 : Ref sig .tc := ⟨.hbm, 276, rfl⟩
abbrev main_cst_3 : Ref sig .tc := ⟨.hbm, 277, rfl⟩
abbrev main_v9 : Ref sig .tc := ⟨.hbm, 278, rfl⟩
abbrev main_v10 : Ref sig .tc := ⟨.hbm, 279, rfl⟩
abbrev main_v11 : Ref sig .tc := ⟨.hbm, 280, rfl⟩
abbrev main_v12 : Ref sig .tc := ⟨.hbm, 281, rfl⟩
abbrev main_cst_4 : Ref sig .tc := ⟨.hbm, 282, rfl⟩
abbrev main_v13 : Ref sig .tc := ⟨.hbm, 283, rfl⟩
abbrev main_v14 : Ref sig .tc := ⟨.hbm, 284, rfl⟩
abbrev main_v15 : Ref sig .tc := ⟨.hbm, 285, rfl⟩
abbrev main_v16 : Ref sig .tc := ⟨.hbm, 286, rfl⟩
abbrev main_cst_5 : Ref sig .tc := ⟨.hbm, 287, rfl⟩
abbrev main_v17 : Ref sig .tc := ⟨.hbm, 288, rfl⟩
abbrev main_v18 : Ref sig .tc := ⟨.hbm, 289, rfl⟩
abbrev main_v19 : Ref sig .tc := ⟨.hbm, 290, rfl⟩
abbrev main_v20_0 : Ref sig .tc := ⟨.hbm, 291, rfl⟩
abbrev main_v20_1 : Ref sig .tc := ⟨.hbm, 292, rfl⟩
abbrev main_v20_2 : Ref sig .tc := ⟨.hbm, 293, rfl⟩
abbrev main_v20_3 : Ref sig .tc := ⟨.hbm, 294, rfl⟩
abbrev main_v20_4 : Ref sig .tc := ⟨.hbm, 295, rfl⟩
abbrev main_v20_5 : Ref sig .tc := ⟨.hbm, 296, rfl⟩
abbrev main_v20_6 : Ref sig .tc := ⟨.hbm, 297, rfl⟩
abbrev main_v20_7 : Ref sig .tc := ⟨.hbm, 298, rfl⟩
abbrev main_c_6 : Ref sig .tc := ⟨.hbm, 299, rfl⟩
abbrev main_v21 : Ref sig .tc := ⟨.hbm, 300, rfl⟩
abbrev main_v22 : Ref sig .tc := ⟨.hbm, 301, rfl⟩
abbrev main_v23 : Ref sig .tc := ⟨.hbm, 302, rfl⟩
abbrev main_v24 : Ref sig .tc := ⟨.hbm, 303, rfl⟩
abbrev main_v25 : Ref sig .tc := ⟨.hbm, 304, rfl⟩
abbrev main_v26 : Ref sig .tc := ⟨.hbm, 305, rfl⟩
abbrev main_v27 : Ref sig .tc := ⟨.hbm, 306, rfl⟩
abbrev main_v28 : Ref sig .tc := ⟨.hbm, 307, rfl⟩
abbrev main_v29 : Ref sig .tc := ⟨.hbm, 308, rfl⟩
abbrev main_v30 : Ref sig .tc := ⟨.hbm, 309, rfl⟩
abbrev main_v31 : Ref sig .tc := ⟨.hbm, 310, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v561 : BitVec 1 := Scalar.cmpi .eq arg0 c7_i32
  let v562 : BitVec 32 := Scalar.extui v561
  let c0_i32_179 : BitVec 32 := 0#32
  let v563 : BitVec 1 := Scalar.cmpi .ne v562 c0_i32_179
  v563

def cc0_transform_0 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x32 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S4x4096x2048 : Shape := ⟨3, ![4, 4096, 2048]⟩
abbrev S16x2048 : Shape := ⟨2, ![16, 2048]⟩
abbrev S16384x2048 : Shape := ⟨2, ![16384, 2048]⟩
abbrev S2048x16 : Shape := ⟨2, ![2048, 16]⟩
abbrev S16384x16 : Shape := ⟨2, ![16384, 16]⟩
abbrev S_ : Shape := ⟨0, ![]⟩
abbrev S1 : Shape := ⟨1, ![1]⟩
abbrev S2 : Shape := ⟨1, ![2]⟩
abbrev S1x1 : Shape := ⟨2, ![1, 1]⟩
abbrev S16384 : Shape := ⟨1, ![16384]⟩
abbrev S16384x1 : Shape := ⟨2, ![16384, 1]⟩
abbrev S16384x2 : Shape := ⟨2, ![16384, 2]⟩
abbrev S1x2 : Shape := ⟨2, ![1, 2]⟩
abbrev S16384x16x2 : Shape := ⟨3, ![16384, 16, 2]⟩
abbrev S16384x2x1 : Shape := ⟨3, ![16384, 2, 1]⟩
abbrev S16384x2x3 : Shape := ⟨3, ![16384, 2, 3]⟩
abbrev S16 : Shape := ⟨1, ![16]⟩
abbrev S4x4096x16x2 : Shape := ⟨4, ![4, 4096, 16, 2]⟩

abbrev nBuf : Space → Nat
  | .hbm => 524
  | .vmem => 0
  | .smem => 0
  | _ => 0

abbrev hbmTy0_0 (i : Nat) : BufTy := match i % 128 with
  | 0 => ⟨S4x4096x2048, .f32⟩
  | 1 => ⟨S16x2048, .f32⟩
  | 2 => ⟨S16384x2048, .f32⟩
  | 3 => ⟨S2048x16, .f32⟩
  | 4 => ⟨S16384x16, .f32⟩
  | 5 => ⟨S_, .i32⟩
  | 6 => ⟨S_, .i32⟩
  | 7 => ⟨S_, .i32⟩
  | 8 => ⟨S_, .i32⟩
  | 9 => ⟨S1, .i32⟩
  | 10 => ⟨S_, .i32⟩
  | 11 => ⟨S_, .i32⟩
  | 12 => ⟨S_, .i32⟩
  | 13 => ⟨S1, .i32⟩
  | 14 => ⟨S2, .i32⟩
  | 15 => ⟨S_, .f32⟩
  | 16 => ⟨S_, .f32⟩
  | 17 => ⟨S_, .f32⟩
  | 18 => ⟨S_, .f32⟩
  | 19 => ⟨S1x1, .f32⟩
  | 20 => ⟨S1x1, .f32⟩
  | 21 => ⟨S1, .i32⟩
  | 22 => ⟨S_, .i32⟩
  | 23 => ⟨S1, .i32⟩
  | 24 => ⟨S_, .i32⟩
  | 25 => ⟨S16384x16, .i64⟩
  | 26 => ⟨S16384x16, .i64⟩
  | 27 => ⟨S_, .i64⟩
  | 28 => ⟨S16384x16, .i64⟩
  | 29 => ⟨S16384x16, .i64⟩
  | 30 => ⟨S_, .i64⟩
  | 31 => ⟨S16384x16, .i64⟩
  | 32 => ⟨S16384x16, .i64⟩
  | 33 => ⟨S16384x16, .i64⟩
  | 34 => ⟨S_, .i64⟩
  | 35 => ⟨S16384x16, .i64⟩
  | 36 => ⟨S16384x16, .i64⟩
  | 37 => ⟨S16384x16, .i32⟩
  | 38 => ⟨S16384x16, .i32⟩
  | 39 => ⟨S_, .i32⟩
  | 40 => ⟨S_, .i32⟩
  | 41 => ⟨S_, .i32⟩
  | 42 => ⟨S16384x16, .i32⟩
  | 43 => ⟨S16384x16, .i32⟩
  | 44 => ⟨S16384x16, .i32⟩
  | 45 => ⟨S16384x16, .i32⟩
  | 46 => ⟨S16384x16, .i32⟩
  | 47 => ⟨S_, .i32⟩
  | 48 => ⟨S16384x16, .i32⟩
  | 49 => ⟨S16384x16, .i32⟩
  | 50 => ⟨S_, .i32⟩
  | 51 => ⟨S16384x16, .i32⟩
  | 52 => ⟨S16384x16, .i32⟩
  | 53 => ⟨S16384x16, .i32⟩
  | 54 => ⟨S16384x16, .i32⟩
  | 55 => ⟨S16384x16, .i32⟩
  | 56 => ⟨S_, .i32⟩
  | 57 => ⟨S16384x16, .i32⟩
  | 58 => ⟨S16384x16, .i32⟩
  | 59 => ⟨S_, .i32⟩
  | 60 => ⟨S16384x16, .i32⟩
  | 61 => ⟨S16384x16, .i32⟩
  | 62 => ⟨S16384x16, .i32⟩
  | 63 => ⟨S16384x16, .i32⟩
  | 64 => ⟨S16384x16, .i32⟩
  | 65 => ⟨S_, .i32⟩
  | 66 => ⟨S16384x16, .i32⟩
  | 67 => ⟨S16384x16, .i32⟩
  | 68 => ⟨S_, .i32⟩
  | 69 => ⟨S16384x16, .i32⟩
  | 70 => ⟨S16384x16, .i32⟩
  | 71 => ⟨S16384x16, .i32⟩
  | 72 => ⟨S16384x16, .i32⟩
  | 73 => ⟨S16384x16, .i32⟩
  | 74 => ⟨S_, .i32⟩
  | 75 => ⟨S16384x16, .i32⟩
  | 76 => ⟨S16384x16, .i32⟩
  | 77 => ⟨S_, .i32⟩
  | 78 => ⟨S16384x16, .i32⟩
  | 79 => ⟨S16384x16, .i32⟩
  | 80 => ⟨S16384x16, .i32⟩
  | 81 => ⟨S16384x16, .i32⟩
  | 82 => ⟨S16384x16, .i32⟩
  | 83 => ⟨S16384x16, .i32⟩
  | 84 => ⟨S16384x16, .i32⟩
  | 85 => ⟨S16384x16, .i32⟩
  | 86 => ⟨S_, .i32⟩
  | 87 => ⟨S16384x16, .i32⟩
  | 88 => ⟨S16384x16, .i32⟩
  | 89 => ⟨S16384x16, .i32⟩
  | 90 => ⟨S_, .i32⟩
  | 91 => ⟨S16384x16, .i32⟩
  | 92 => ⟨S16384x16, .i32⟩
  | 93 => ⟨S_, .i32⟩
  | 94 => ⟨S16384x16, .i32⟩
  | 95 => ⟨S16384x16, .i32⟩
  | 96 => ⟨S16384x16, .i32⟩
  | 97 => ⟨S16384x16, .i32⟩
  | 98 => ⟨S16384x16, .i32⟩
  | 99 => ⟨S_, .i32⟩
  | 100 => ⟨S16384x16, .i32⟩
  | 101 => ⟨S16384x16, .i32⟩
  | 102 => ⟨S_, .i32⟩
  | 103 => ⟨S16384x16, .i32⟩
  | 104 => ⟨S16384x16, .i32⟩
  | 105 => ⟨S16384x16, .i32⟩
  | 106 => ⟨S16384x16, .i32⟩
  | 107 => ⟨S16384x16, .i32⟩
  | 108 => ⟨S_, .i32⟩
  | 109 => ⟨S16384x16, .i32⟩
  | 110 => ⟨S16384x16, .i32⟩
  | 111 => ⟨S_, .i32⟩
  | 112 => ⟨S16384x16, .i32⟩
  | 113 => ⟨S16384x16, .i32⟩
  | 114 => ⟨S16384x16, .i32⟩
  | 115 => ⟨S16384x16, .i32⟩
  | 116 => ⟨S16384x16, .i32⟩
  | 117 => ⟨S_, .i32⟩
  | 118 => ⟨S16384x16, .i32⟩
  | 119 => ⟨S16384x16, .i32⟩
  | 120 => ⟨S_, .i32⟩
  | 121 => ⟨S16384x16, .i32⟩
  | 122 => ⟨S16384x16, .i32⟩
  | 123 => ⟨S16384x16, .i32⟩
  | 124 => ⟨S16384x16, .i32⟩
  | 125 => ⟨S16384x16, .i32⟩
  | 126 => ⟨S16384x16, .i32⟩
  | 127 => ⟨S16384x16, .i32⟩
  | _ => ⟨S4x4096x2048, .f32⟩

abbrev hbmTy0_1 (i : Nat) : BufTy := match i % 128 with
  | 0 => ⟨S16384x16, .i32⟩
  | 1 => ⟨S_, .i32⟩
  | 2 => ⟨S16384x16, .i32⟩
  | 3 => ⟨S16384x16, .i32⟩
  | 4 => ⟨S16384x16, .i32⟩
  | 5 => ⟨S_, .i32⟩
  | 6 => ⟨S16384x16, .i32⟩
  | 7 => ⟨S16384x16, .i32⟩
  | 8 => ⟨S_, .i32⟩
  | 9 => ⟨S16384x16, .i32⟩
  | 10 => ⟨S16384x16, .i32⟩
  | 11 => ⟨S16384x16, .i32⟩
  | 12 => ⟨S16384x16, .i32⟩
  | 13 => ⟨S16384x16, .i32⟩
  | 14 => ⟨S_, .i32⟩
  | 15 => ⟨S16384x16, .i32⟩
  | 16 => ⟨S16384x16, .i32⟩
  | 17 => ⟨S_, .i32⟩
  | 18 => ⟨S16384x16, .i32⟩
  | 19 => ⟨S16384x16, .i32⟩
  | 20 => ⟨S16384x16, .i32⟩
  | 21 => ⟨S16384x16, .i32⟩
  | 22 => ⟨S16384x16, .i32⟩
  | 23 => ⟨S_, .i32⟩
  | 24 => ⟨S16384x16, .i32⟩
  | 25 => ⟨S16384x16, .i32⟩
  | 26 => ⟨S_, .i32⟩
  | 27 => ⟨S16384x16, .i32⟩
  | 28 => ⟨S16384x16, .i32⟩
  | 29 => ⟨S16384x16, .i32⟩
  | 30 => ⟨S16384x16, .i32⟩
  | 31 => ⟨S16384x16, .i32⟩
  | 32 => ⟨S_, .i32⟩
  | 33 => ⟨S16384x16, .i32⟩
  | 34 => ⟨S16384x16, .i32⟩
  | 35 => ⟨S_, .i32⟩
  | 36 => ⟨S16384x16, .i32⟩
  | 37 => ⟨S16384x16, .i32⟩
  | 38 => ⟨S16384x16, .i32⟩
  | 39 => ⟨S16384x16, .i32⟩
  | 40 => ⟨S16384x16, .i32⟩
  | 41 => ⟨S16384x16, .i32⟩
  | 42 => ⟨S16384x16, .i32⟩
  | 43 => ⟨S16384x16, .i32⟩
  | 44 => ⟨S_, .i32⟩
  | 45 => ⟨S16384x16, .i32⟩
  | 46 => ⟨S16384x16, .i32⟩
  | 47 => ⟨S16384x16, .i32⟩
  | 48 => ⟨S_, .i32⟩
  | 49 => ⟨S16384x16, .i32⟩
  | 50 => ⟨S16384x16, .i32⟩
  | 51 => ⟨S_, .i32⟩
  | 52 => ⟨S16384x16, .i32⟩
  | 53 => ⟨S16384x16, .i32⟩
  | 54 => ⟨S16384x16, .i32⟩
  | 55 => ⟨S16384x16, .i32⟩
  | 56 => ⟨S16384x16, .i32⟩
  | 57 => ⟨S_, .i32⟩
  | 58 => ⟨S16384x16, .i32⟩
  | 59 => ⟨S16384x16, .i32⟩
  | 60 => ⟨S_, .i32⟩
  | 61 => ⟨S16384x16, .i32⟩
  | 62 => ⟨S16384x16, .i32⟩
  | 63 => ⟨S16384x16, .i32⟩
  | 64 => ⟨S16384x16, .i32⟩
  | 65 => ⟨S16384x16, .i32⟩
  | 66 => ⟨S_, .i32⟩
  | 67 => ⟨S16384x16, .i32⟩
  | 68 => ⟨S16384x16, .i32⟩
  | 69 => ⟨S_, .i32⟩
  | 70 => ⟨S16384x16, .i32⟩
  | 71 => ⟨S16384x16, .i32⟩
  | 72 => ⟨S16384x16, .i32⟩
  | 73 => ⟨S16384x16, .i32⟩
  | 74 => ⟨S16384x16, .i32⟩
  | 75 => ⟨S_, .i32⟩
  | 76 => ⟨S16384x16, .i32⟩
  | 77 => ⟨S16384x16, .i32⟩
  | 78 => ⟨S_, .i32⟩
  | 79 => ⟨S16384x16, .i32⟩
  | 80 => ⟨S16384x16, .i32⟩
  | 81 => ⟨S16384x16, .i32⟩
  | 82 => ⟨S16384x16, .i32⟩
  | 83 => ⟨S16384x16, .i32⟩
  | 84 => ⟨S16384x16, .i32⟩
  | 85 => ⟨S16384x16, .i32⟩
  | 86 => ⟨S16384x16, .i32⟩
  | 87 => ⟨S_, .i32⟩
  | 88 => ⟨S16384x16, .i32⟩
  | 89 => ⟨S16384x16, .i32⟩
  | 90 => ⟨S16384x16, .i32⟩
  | 91 => ⟨S_, .i32⟩
  | 92 => ⟨S16384x16, .i32⟩
  | 93 => ⟨S16384x16, .i32⟩
  | 94 => ⟨S_, .i32⟩
  | 95 => ⟨S16384x16, .i32⟩
  | 96 => ⟨S16384x16, .i32⟩
  | 97 => ⟨S16384x16, .i32⟩
  | 98 => ⟨S16384x16, .i32⟩
  | 99 => ⟨S16384x16, .i32⟩
  | 100 => ⟨S_, .i32⟩
  | 101 => ⟨S16384x16, .i32⟩
  | 102 => ⟨S16384x16, .i32⟩
  | 103 => ⟨S_, .i32⟩
  | 104 => ⟨S16384x16, .i32⟩
  | 105 => ⟨S16384x16, .i32⟩
  | 106 => ⟨S16384x16, .i32⟩
  | 107 => ⟨S16384x16, .i32⟩
  | 108 => ⟨S16384x16, .i32⟩
  | 109 => ⟨S_, .i32⟩
  | 110 => ⟨S16384x16, .i32⟩
  | 111 => ⟨S16384x16, .i32⟩
  | 112 => ⟨S_, .i32⟩
  | 113 => ⟨S16384x16, .i32⟩
  | 114 => ⟨S16384x16, .i32⟩
  | 115 => ⟨S16384x16, .i32⟩
  | 116 => ⟨S16384x16, .i32⟩
  | 117 => ⟨S16384x16, .i32⟩
  | 118 => ⟨S_, .i32⟩
  | 119 => ⟨S16384x16, .i32⟩
  | 120 => ⟨S16384x16, .i32⟩
  | 121 => ⟨S_, .i32⟩
  | 122 => ⟨S16384x16, .i32⟩
  | 123 => ⟨S16384x16, .i32⟩
  | 124 => ⟨S16384x16, .i32⟩
  | 125 => ⟨S16384x16, .i32⟩
  | 126 => ⟨S16384x16, .i32⟩
  | 127 => ⟨S16384x16, .i32⟩
  | _ => ⟨S4x4096x2048, .f32⟩

abbrev hbmTy0_2 (i : Nat) : BufTy := match i % 128 with
  | 0 => ⟨S16384x16, .i32⟩
  | 1 => ⟨S16384x16, .i32⟩
  | 2 => ⟨S_, .i32⟩
  | 3 => ⟨S16384x16, .i32⟩
  | 4 => ⟨S16384x16, .i32⟩
  | 5 => ⟨S16384x16, .i32⟩
  | 6 => ⟨S_, .i32⟩
  | 7 => ⟨S16384x16, .i32⟩
  | 8 => ⟨S16384x16, .i32⟩
  | 9 => ⟨S_, .i32⟩
  | 10 => ⟨S16384x16, .i32⟩
  | 11 => ⟨S16384x16, .i32⟩
  | 12 => ⟨S16384x16, .f32⟩
  | 13 => ⟨S_, .f32⟩
  | 14 => ⟨S16384x16, .f32⟩
  | 15 => ⟨S16384x16, .f32⟩
  | 16 => ⟨S1x1, .f32⟩
  | 17 => ⟨S16384x16, .f32⟩
  | 18 => ⟨S16384x16, .f32⟩
  | 19 => ⟨S16384x16, .f32⟩
  | 20 => ⟨S16384x16, .f32⟩
  | 21 => ⟨S16384x16, .f32⟩
  | 22 => ⟨S16384x16, .f32⟩
  | 23 => ⟨S_, .f32⟩
  | 24 => ⟨S16384x16, .f32⟩
  | 25 => ⟨S16384x16, .f32⟩
  | 26 => ⟨S16384x16, .f32⟩
  | 27 => ⟨S16384x16, .f32⟩
  | 28 => ⟨S_, .f32⟩
  | 29 => ⟨S16384x16, .f32⟩
  | 30 => ⟨S16384x16, .f32⟩
  | 31 => ⟨S16384x16, .f32⟩
  | 32 => ⟨S16384x16, .f32⟩
  | 33 => ⟨S_, .f32⟩
  | 34 => ⟨S16384x16, .f32⟩
  | 35 => ⟨S16384x16, .f32⟩
  | 36 => ⟨S16384x16, .f32⟩
  | 37 => ⟨S_, .f32⟩
  | 38 => ⟨S16384x16, .f32⟩
  | 39 => ⟨S16384x16, .f32⟩
  | 40 => ⟨S_, .f32⟩
  | 41 => ⟨S16384, .f32⟩
  | 42 => ⟨S_, .f32⟩
  | 43 => ⟨S16384, .f32⟩
  | 44 => ⟨S16384, .f32⟩
  | 45 => ⟨S16384x1, .f32⟩
  | 46 => ⟨S16384x16, .f32⟩
  | 47 => ⟨S16384x16, .f32⟩
  | 48 => ⟨S16384x16, .f32⟩
  | 49 => ⟨S_, .f32⟩
  | 50 => ⟨S16384, .f32⟩
  | 51 => ⟨S16384x1, .f32⟩
  | 52 => ⟨S16384x16, .f32⟩
  | 53 => ⟨S16384x16, .f32⟩
  | 54 => ⟨S_, .f32⟩
  | 55 => ⟨S16384x16, .f32⟩
  | 56 => ⟨S16384x16, .f32⟩
  | 57 => ⟨S_, .f32⟩
  | 58 => ⟨S16384x16, .f32⟩
  | 59 => ⟨S16384x16, .f32⟩
  | 60 => ⟨S_, .f32⟩
  | 61 => ⟨S16384, .f32⟩
  | 62 => ⟨S16384x1, .f32⟩
  | 63 => ⟨S16384x16, .f32⟩
  | 64 => ⟨S16384x16, .f32⟩
  | 65 => ⟨S16384x2, .f32⟩
  | 66 => ⟨S16384x2, .i32⟩
  | 67 => ⟨S_, .f32⟩
  | 68 => ⟨S16384, .f32⟩
  | 69 => ⟨S16384x1, .f32⟩
  | 70 => ⟨S16384x2, .f32⟩
  | 71 => ⟨S16384x2, .f32⟩
  | 72 => ⟨S16384, .i32⟩
  | 73 => ⟨S16384x1, .i32⟩
  | 74 => ⟨S2, .i32⟩
  | 75 => ⟨S1x2, .i32⟩
  | 76 => ⟨S_, .i1⟩
  | 77 => ⟨S16384x16x2, .i1⟩
  | 78 => ⟨S_, .i32⟩
  | 79 => ⟨S16384x1, .i32⟩
  | 80 => ⟨S16384x1, .i1⟩
  | 81 => ⟨S_, .i32⟩
  | 82 => ⟨S16384x1, .i32⟩
  | 83 => ⟨S16384x1, .i32⟩
  | 84 => ⟨S16384x1, .i32⟩
  | 85 => ⟨S_, .i32⟩
  | 86 => ⟨S16384x2, .i32⟩
  | 87 => ⟨S16384x2, .i1⟩
  | 88 => ⟨S_, .i32⟩
  | 89 => ⟨S16384x2, .i32⟩
  | 90 => ⟨S16384x2, .i32⟩
  | 91 => ⟨S16384x2, .i32⟩
  | 92 => ⟨S_, .i32⟩
  | 93 => ⟨S1x2, .i32⟩
  | 94 => ⟨S1x2, .i1⟩
  | 95 => ⟨S_, .i32⟩
  | 96 => ⟨S1x2, .i32⟩
  | 97 => ⟨S1x2, .i32⟩
  | 98 => ⟨S1x2, .i32⟩
  | 99 => ⟨S16384x2, .i32⟩
  | 100 => ⟨S16384x2, .i32⟩
  | 101 => ⟨S16384x2x1, .i32⟩
  | 102 => ⟨S16384x2x1, .i32⟩
  | 103 => ⟨S16384x2x1, .i32⟩
  | 104 => ⟨S16384x2x3, .i32⟩
  | 105 => ⟨S_, .i1⟩
  | 106 => ⟨S16384x2, .i1⟩
  | 107 => ⟨S16384x16x2, .i1⟩
  | 108 => ⟨S_, .f32⟩
  | 109 => ⟨S16384x16x2, .f32⟩
  | 110 => ⟨S_, .i32⟩
  | 111 => ⟨S16384x1, .i32⟩
  | 112 => ⟨S16384x1, .i1⟩
  | 113 => ⟨S_, .i32⟩
  | 114 => ⟨S16384x1, .i32⟩
  | 115 => ⟨S16384x1, .i32⟩
  | 116 => ⟨S16384x1, .i32⟩
  | 117 => ⟨S_, .i32⟩
  | 118 => ⟨S16384x2, .i32⟩
  | 119 => ⟨S16384x2, .i1⟩
  | 120 => ⟨S_, .i32⟩
  | 121 => ⟨S16384x2, .i32⟩
  | 122 => ⟨S16384x2, .i32⟩
  | 123 => ⟨S16384x2, .i32⟩
  | 124 => ⟨S_, .i32⟩
  | 125 => ⟨S1x2, .i32⟩
  | 126 => ⟨S1x2, .i1⟩
  | 127 => ⟨S_, .i32⟩
  | _ => ⟨S4x4096x2048, .f32⟩

abbrev hbmTy0_3 (i : Nat) : BufTy := match i % 128 with
  | 0 => ⟨S1x2, .i32⟩
  | 1 => ⟨S1x2, .i32⟩
  | 2 => ⟨S1x2, .i32⟩
  | 3 => ⟨S16384x2, .i32⟩
  | 4 => ⟨S16384x2, .i32⟩
  | 5 => ⟨S16384x2x1, .i32⟩
  | 6 => ⟨S16384x2x1, .i32⟩
  | 7 => ⟨S16384x2x1, .i32⟩
  | 8 => ⟨S16384x2x3, .i32⟩
  | 9 => ⟨S16384x16x2, .f32⟩
  | 10 => ⟨S16384x16x2, .f32⟩
  | 11 => ⟨S_, .f32⟩
  | 12 => ⟨S16, .f32⟩
  | 13 => ⟨S_, .f32⟩
  | 14 => ⟨S_, .f32⟩
  | 15 => ⟨S_, .f32⟩
  | 16 => ⟨S_, .f32⟩
  | 17 => ⟨S16, .f32⟩
  | 18 => ⟨S16, .f32⟩
  | 19 => ⟨S_, .f32⟩
  | 20 => ⟨S16, .f32⟩
  | 21 => ⟨S_, .f32⟩
  | 22 => ⟨S16, .f32⟩
  | 23 => ⟨S16, .f32⟩
  | 24 => ⟨S16, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S16, .f32⟩
  | 37 => ⟨S_, .f32⟩
  | 38 => ⟨S16, .f32⟩
  | 39 => ⟨S16, .f32⟩
  | 40 => ⟨S_, .i32⟩
  | 41 => ⟨S_, .f32⟩
  | 42 => ⟨S_, .f32⟩
  | 43 => ⟨S1, .f32⟩
  | 44 => ⟨S_, .f32⟩
  | 45 => ⟨S1, .f32⟩
  | 46 => ⟨S1, .f32⟩
  | 47 => ⟨S16, .f32⟩
  | 48 => ⟨S16, .f32⟩
  | 49 => ⟨S16, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .i1⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S16384x16, .f32⟩
  | 77 => ⟨S16384x16, .f32⟩
  | 78 => ⟨S16384x16, .f32⟩
  | 79 => ⟨S16384x16, .f32⟩
  | 80 => ⟨S_, .f32⟩
  | 81 => ⟨S16384, .f32⟩
  | 82 => ⟨S16384, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S16384, .f32⟩
  | 102 => ⟨S16384x1, .f32⟩
  | 103 => ⟨S16384x1, .f32⟩
  | 104 => ⟨S_, .f32⟩
  | 105 => ⟨S16384x1, .f32⟩
  | 106 => ⟨S16384x1, .i1⟩
  | 107 => ⟨S_, .f32⟩
  | 108 => ⟨S_, .f32⟩
  | 109 => ⟨S16384x1, .f32⟩
  | 110 => ⟨S16384x1, .f32⟩
  | 111 => ⟨S16384x16, .f32⟩
  | 112 => ⟨S16384x16, .f32⟩
  | 113 => ⟨S16384x16, .f32⟩
  | 114 => ⟨S_, .f32⟩
  | 115 => ⟨S16384, .f32⟩
  | 116 => ⟨S16384, .f32⟩
  | 117 => ⟨S16384, .f32⟩
  | 118 => ⟨S16384, .f32⟩
  | 119 => ⟨S16384, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4x4096x2048, .f32⟩

abbrev hbmTy0_4 (i : Nat) : BufTy := match i % 128 with
  | 0 => ⟨S_, .f32⟩
  | 1 => ⟨S_, .f32⟩
  | 2 => ⟨S_, .f32⟩
  | 3 => ⟨S16, .f32⟩
  | 4 => ⟨S16, .f32⟩
  | 5 => ⟨S16, .f32⟩
  | 6 => ⟨S16, .f32⟩
  | 7 => ⟨S_, .f32⟩
  | 8 => ⟨S_, .f32⟩
  | 9 => ⟨S_, .f32⟩
  | 10 => ⟨S4x4096x16x2, .i1⟩
  | 11 => ⟨S4x4096x16x2, .f32⟩
  | _ => ⟨S4x4096x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_c : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_c_1 : Ref sig .tc := ⟨.hbm, 34, rfl⟩
abbrev main_call0_v15 : Ref sig .tc := ⟨.hbm, 35, rfl⟩
abbrev main_call0_v16 : Ref sig .tc := ⟨.hbm, 36, rfl⟩
abbrev main_call0_v17 : Ref sig .tc := ⟨.hbm, 37, rfl⟩
abbrev main_call0_v18 : Ref sig .tc := ⟨.hbm, 38, rfl⟩
abbrev main_call0_call0_v0 : Ref sig .tc := ⟨.hbm, 39, rfl⟩
abbrev main_call0_call0_c : Ref sig .tc := ⟨.hbm, 40, rfl⟩
abbrev main_call0_call0_v1 : Ref sig .tc := ⟨.hbm, 41, rfl⟩
abbrev main_call0_call0_v2 : Ref sig .tc := ⟨.hbm, 42, rfl⟩
abbrev main_call0_call0_v3 : Ref sig .tc := ⟨.hbm, 43, rfl⟩
abbrev main_call0_call0_v4 : Ref sig .tc := ⟨.hbm, 44, rfl⟩
abbrev main_call0_call0_v5 : Ref sig .tc := ⟨.hbm, 45, rfl⟩
abbrev main_call0_call0_v6 : Ref sig .tc := ⟨.hbm, 46, rfl⟩
abbrev main_call0_call0_c_0 : Ref sig .tc := ⟨.hbm, 47, rfl⟩
abbrev main_call0_call0_v7 : Ref sig .tc := ⟨.hbm, 48, rfl⟩
abbrev main_call0_call0_v8 : Ref sig .tc := ⟨.hbm, 49, rfl⟩
abbrev main_call0_call0_c_1 : Ref sig .tc := ⟨.hbm, 50, rfl⟩
abbrev main_call0_call0_v9 : Ref sig .tc := ⟨.hbm, 51, rfl⟩
abbrev main_call0_call0_v10 : Ref sig .tc := ⟨.hbm, 52, rfl⟩
abbrev main_call0_call0_v11 : Ref sig .tc := ⟨.hbm, 53, rfl⟩
abbrev main_call0_call0_v12 : Ref sig .tc := ⟨.hbm, 54, rfl⟩
abbrev main_call0_call0_v13 : Ref sig .tc := ⟨.hbm, 55, rfl⟩
abbrev main_call0_call0_c_2 : Ref sig .tc := ⟨.hbm, 56, rfl⟩
abbrev main_call0_call0_v14 : Ref sig .tc := ⟨.hbm, 57, rfl⟩
abbrev main_call0_call0_v15 : Ref sig .tc := ⟨.hbm, 58, rfl⟩
abbrev main_call0_call0_c_3 : Ref sig .tc := ⟨.hbm, 59, rfl⟩
abbrev main_call0_call0_v16 : Ref sig .tc := ⟨.hbm, 60, rfl⟩
abbrev main_call0_call0_v17 : Ref sig .tc := ⟨.hbm, 61, rfl⟩
abbrev main_call0_call0_v18 : Ref sig .tc := ⟨.hbm, 62, rfl⟩
abbrev main_call0_call0_v19 : Ref sig .tc := ⟨.hbm, 63, rfl⟩
abbrev main_call0_call0_v20 : Ref sig .tc := ⟨.hbm, 64, rfl⟩
abbrev main_call0_call0_c_4 : Ref sig .tc := ⟨.hbm, 65, rfl⟩
abbrev main_call0_call0_v21 : Ref sig .tc := ⟨.hbm, 66, rfl⟩
abbrev main_call0_call0_v22 : Ref sig .tc := ⟨.hbm, 67, rfl⟩
abbrev main_call0_call0_c_5 : Ref sig .tc := ⟨.hbm, 68, rfl⟩
abbrev main_call0_call0_v23 : Ref sig .tc := ⟨.hbm, 69, rfl⟩
abbrev main_call0_call0_v24 : Ref sig .tc := ⟨.hbm, 70, rfl⟩
abbrev main_call0_call0_v25 : Ref sig .tc := ⟨.hbm, 71, rfl⟩
abbrev main_call0_call0_v26 : Ref sig .tc := ⟨.hbm, 72, rfl⟩
abbrev main_call0_call0_v27 : Ref sig .tc := ⟨.hbm, 73, rfl⟩
abbrev main_call0_call0_c_6 : Ref sig .tc := ⟨.hbm, 74, rfl⟩
abbrev main_call0_call0_v28 : Ref sig .tc := ⟨.hbm, 75, rfl⟩
abbrev main_call0_call0_v29 : Ref sig .tc := ⟨.hbm, 76, rfl⟩
abbrev main_call0_call0_c_7 : Ref sig .tc := ⟨.hbm, 77, rfl⟩
abbrev main_call0_call0_v30 : Ref sig .tc := ⟨.hbm, 78, rfl⟩
abbrev main_call0_call0_v31 : Ref sig .tc := ⟨.hbm, 79, rfl⟩
abbrev main_call0_call0_v32 : Ref sig .tc := ⟨.hbm, 80, rfl⟩
abbrev main_call0_call0_v33 : Ref sig .tc := ⟨.hbm, 81, rfl⟩
abbrev main_call0_call0_v34 : Ref sig .tc := ⟨.hbm, 82, rfl⟩
abbrev main_call0_call0_v35 : Ref sig .tc := ⟨.hbm, 83, rfl⟩
abbrev main_call0_call0_v36 : Ref sig .tc := ⟨.hbm, 84, rfl⟩
abbrev main_call0_call0_v37 : Ref sig .tc := ⟨.hbm, 85, rfl⟩
abbrev main_call0_call0_c_8 : Ref sig .tc := ⟨.hbm, 86, rfl⟩
abbrev main_call0_call0_v38 : Ref sig .tc := ⟨.hbm, 87, rfl⟩
abbrev main_call0_call0_v39 : Ref sig .tc := ⟨.hbm, 88, rfl⟩
abbrev main_call0_call0_v40 : Ref sig .tc := ⟨.hbm, 89, rfl⟩
abbrev main_call0_call0_c_9 : Ref sig .tc := ⟨.hbm, 90, rfl⟩
abbrev main_call0_call0_v41 : Ref sig .tc := ⟨.hbm, 91, rfl⟩
abbrev main_call0_call0_v42 : Ref sig .tc := ⟨.hbm, 92, rfl⟩
abbrev main_call0_call0_c_10 : Ref sig .tc := ⟨.hbm, 93, rfl⟩
abbrev main_call0_call0_v43 : Ref sig .tc := ⟨.hbm, 94, rfl⟩
abbrev main_call0_call0_v44 : Ref sig .tc := ⟨.hbm, 95, rfl⟩
abbrev main_call0_call0_v45 : Ref sig .tc := ⟨.hbm, 96, rfl⟩
abbrev main_call0_call0_v46 : Ref sig .tc := ⟨.hbm, 97, rfl⟩
abbrev main_call0_call0_v47 : Ref sig .tc := ⟨.hbm, 98, rfl⟩
abbrev main_call0_call0_c_11 : Ref sig .tc := ⟨.hbm, 99, rfl⟩
abbrev main_call0_call0_v48 : Ref sig .tc := ⟨.hbm, 100, rfl⟩
abbrev main_call0_call0_v49 : Ref sig .tc := ⟨.hbm, 101, rfl⟩
abbrev main_call0_call0_c_12 : Ref sig .tc := ⟨.hbm, 102, rfl⟩
abbrev main_call0_call0_v50 : Ref sig .tc := ⟨.hbm, 103, rfl⟩
abbrev main_call0_call0_v51 : Ref sig .tc := ⟨.hbm, 104, rfl⟩
abbrev main_call0_call0_v52 : Ref sig .tc := ⟨.hbm, 105, rfl⟩
abbrev main_call0_call0_v53 : Ref sig .tc := ⟨.hbm, 106, rfl⟩
abbrev main_call0_call0_v54 : Ref sig .tc := ⟨.hbm, 107, rfl⟩
abbrev main_call0_call0_c_13 : Ref sig .tc := ⟨.hbm, 108, rfl⟩
abbrev main_call0_call0_v55 : Ref sig .tc := ⟨.hbm, 109, rfl⟩
abbrev main_call0_call0_v56 : Ref sig .tc := ⟨.hbm, 110, rfl⟩
abbrev main_call0_call0_c_14 : Ref sig .tc := ⟨.hbm, 111, rfl⟩
abbrev main_call0_call0_v57 : Ref sig .tc := ⟨.hbm, 112, rfl⟩
abbrev main_call0_call0_v58 : Ref sig .tc := ⟨.hbm, 113, rfl⟩
abbrev main_call0_call0_v59 : Ref sig .tc := ⟨.hbm, 114, rfl⟩
abbrev main_call0_call0_v60 : Ref sig .tc := ⟨.hbm, 115, rfl⟩
abbrev main_call0_call0_v61 : Ref sig .tc := ⟨.hbm, 116, rfl⟩
abbrev main_call0_call0_c_15 : Ref sig .tc := ⟨.hbm, 117, rfl⟩
abbrev main_call0_call0_v62 : Ref sig .tc := ⟨.hbm, 118, rfl⟩
abbrev main_call0_call0_v63 : Ref sig .tc := ⟨.hbm, 119, rfl⟩
abbrev main_call0_call0_c_16 : Ref sig .tc := ⟨.hbm, 120, rfl⟩
abbrev main_call0_call0_v64 : Ref sig .tc := ⟨.hbm, 121, rfl⟩
abbrev main_call0_call0_v65 : Ref sig .tc := ⟨.hbm, 122, rfl⟩
abbrev main_call0_call0_v66 : Ref sig .tc := ⟨.hbm, 123, rfl⟩
abbrev main_call0_call0_v67 : Ref sig .tc := ⟨.hbm, 124, rfl⟩
abbrev main_call0_call0_v68 : Ref sig .tc := ⟨.hbm, 125, rfl⟩
abbrev main_call0_call0_v69 : Ref sig .tc := ⟨.hbm, 126, rfl⟩
abbrev main_call0_call0_v70 : Ref sig .tc := ⟨.hbm, 127, rfl⟩
abbrev main_call0_call0_v71 : Ref sig .tc := ⟨.hbm, 128, rfl⟩
abbrev main_call0_call0_c_17 : Ref sig .tc := ⟨.hbm, 129, rfl⟩
abbrev main_call0_call0_v72 : Ref sig .tc := ⟨.hbm, 130, rfl⟩
abbrev main_call0_call0_v73 : Ref sig .tc := ⟨.hbm, 131, rfl⟩
abbrev main_call0_call0_v74 : Ref sig .tc := ⟨.hbm, 132, rfl⟩
abbrev main_call0_call0_c_18 : Ref sig .tc := ⟨.hbm, 133, rfl⟩
abbrev main_call0_call0_v75 : Ref sig .tc := ⟨.hbm, 134, rfl⟩
abbrev main_call0_call0_v76 : Ref sig .tc := ⟨.hbm, 135, rfl⟩
abbrev main_call0_call0_c_19 : Ref sig .tc := ⟨.hbm, 136, rfl⟩
abbrev main_call0_call0_v77 : Ref sig .tc := ⟨.hbm, 137, rfl⟩
abbrev main_call0_call0_v78 : Ref sig .tc := ⟨.hbm, 138, rfl⟩
abbrev main_call0_call0_v79 : Ref sig .tc := ⟨.hbm, 139, rfl⟩
abbrev main_call0_call0_v80 : Ref sig .tc := ⟨.hbm, 140, rfl⟩
abbrev main_call0_call0_v81 : Ref sig .tc := ⟨.hbm, 141, rfl⟩
abbrev main_call0_call0_c_20 : Ref sig .tc := ⟨.hbm, 142, rfl⟩
abbrev main_call0_call0_v82 : Ref sig .tc := ⟨.hbm, 143, rfl⟩
abbrev main_call0_call0_v83 : Ref sig .tc := ⟨.hbm, 144, rfl⟩
abbrev main_call0_call0_c_21 : Ref sig .tc := ⟨.hbm, 145, rfl⟩
abbrev main_call0_call0_v84 : Ref sig .tc := ⟨.hbm, 146, rfl⟩
abbrev main_call0_call0_v85 : Ref sig .tc := ⟨.hbm, 147, rfl⟩
abbrev main_call0_call0_v86 : Ref sig .tc := ⟨.hbm, 148, rfl⟩
abbrev main_call0_call0_v87 : Ref sig .tc := ⟨.hbm, 149, rfl⟩
abbrev main_call0_call0_v88 : Ref sig .tc := ⟨.hbm, 150, rfl⟩
abbrev main_call0_call0_c_22 : Ref sig .tc := ⟨.hbm, 151, rfl⟩
abbrev main_call0_call0_v89 : Ref sig .tc := ⟨.hbm, 152, rfl⟩
abbrev main_call0_call0_v90 : Ref sig .tc := ⟨.hbm, 153, rfl⟩
abbrev main_call0_call0_c_23 : Ref sig .tc := ⟨.hbm, 154, rfl⟩
abbrev main_call0_call0_v91 : Ref sig .tc := ⟨.hbm, 155, rfl⟩
abbrev main_call0_call0_v92 : Ref sig .tc := ⟨.hbm, 156, rfl⟩
abbrev main_call0_call0_v93 : Ref sig .tc := ⟨.hbm, 157, rfl⟩
abbrev main_call0_call0_v94 : Ref sig .tc := ⟨.hbm, 158, rfl⟩
abbrev main_call0_call0_v95 : Ref sig .tc := ⟨.hbm, 159, rfl⟩
abbrev main_call0_call0_c_24 : Ref sig .tc := ⟨.hbm, 160, rfl⟩
abbrev main_call0_call0_v96 : Ref sig .tc := ⟨.hbm, 161, rfl⟩
abbrev main_call0_call0_v97 : Ref sig .tc := ⟨.hbm, 162, rfl⟩
abbrev main_call0_call0_c_25 : Ref sig .tc := ⟨.hbm, 163, rfl⟩
abbrev main_call0_call0_v98 : Ref sig .tc := ⟨.hbm, 164, rfl⟩
abbrev main_call0_call0_v99 : Ref sig .tc := ⟨.hbm, 165, rfl⟩
abbrev main_call0_call0_v100 : Ref sig .tc := ⟨.hbm, 166, rfl⟩
abbrev main_call0_call0_v101 : Ref sig .tc := ⟨.hbm, 167, rfl⟩
abbrev main_call0_call0_v102 : Ref sig .tc := ⟨.hbm, 168, rfl⟩
abbrev main_call0_call0_v103 : Ref sig .tc := ⟨.hbm, 169, rfl⟩
abbrev main_call0_call0_v104 : Ref sig .tc := ⟨.hbm, 170, rfl⟩
abbrev main_call0_call0_v105 : Ref sig .tc := ⟨.hbm, 171, rfl⟩
abbrev main_call0_call0_c_26 : Ref sig .tc := ⟨.hbm, 172, rfl⟩
abbrev main_call0_call0_v106 : Ref sig .tc := ⟨.hbm, 173, rfl⟩
abbrev main_call0_call0_v107 : Ref sig .tc := ⟨.hbm, 174, rfl⟩
abbrev main_call0_call0_v108 : Ref sig .tc := ⟨.hbm, 175, rfl⟩
abbrev main_call0_call0_c_27 : Ref sig .tc := ⟨.hbm, 176, rfl⟩
abbrev main_call0_call0_v109 : Ref sig .tc := ⟨.hbm, 177, rfl⟩
abbrev main_call0_call0_v110 : Ref sig .tc := ⟨.hbm, 178, rfl⟩
abbrev main_call0_call0_c_28 : Ref sig .tc := ⟨.hbm, 179, rfl⟩
abbrev main_call0_call0_v111 : Ref sig .tc := ⟨.hbm, 180, rfl⟩
abbrev main_call0_call0_v112 : Ref sig .tc := ⟨.hbm, 181, rfl⟩
abbrev main_call0_call0_v113 : Ref sig .tc := ⟨.hbm, 182, rfl⟩
abbrev main_call0_call0_v114 : Ref sig .tc := ⟨.hbm, 183, rfl⟩
abbrev main_call0_call0_v115 : Ref sig .tc := ⟨.hbm, 184, rfl⟩
abbrev main_call0_call0_c_29 : Ref sig .tc := ⟨.hbm, 185, rfl⟩
abbrev main_call0_call0_v116 : Ref sig .tc := ⟨.hbm, 186, rfl⟩
abbrev main_call0_call0_v117 : Ref sig .tc := ⟨.hbm, 187, rfl⟩
abbrev main_call0_call0_c_30 : Ref sig .tc := ⟨.hbm, 188, rfl⟩
abbrev main_call0_call0_v118 : Ref sig .tc := ⟨.hbm, 189, rfl⟩
abbrev main_call0_call0_v119 : Ref sig .tc := ⟨.hbm, 190, rfl⟩
abbrev main_call0_call0_v120 : Ref sig .tc := ⟨.hbm, 191, rfl⟩
abbrev main_call0_call0_v121 : Ref sig .tc := ⟨.hbm, 192, rfl⟩
abbrev main_call0_call0_v122 : Ref sig .tc := ⟨.hbm, 193, rfl⟩
abbrev main_call0_call0_c_31 : Ref sig .tc := ⟨.hbm, 194, rfl⟩
abbrev main_call0_call0_v123 : Ref sig .tc := ⟨.hbm, 195, rfl⟩
abbrev main_call0_call0_v124 : Ref sig .tc := ⟨.hbm, 196, rfl⟩
abbrev main_call0_call0_c_32 : Ref sig .tc := ⟨.hbm, 197, rfl⟩
abbrev main_call0_call0_v125 : Ref sig .tc := ⟨.hbm, 198, rfl⟩
abbrev main_call0_call0_v126 : Ref sig .tc := ⟨.hbm, 199, rfl⟩
abbrev main_call0_call0_v127 : Ref sig .tc := ⟨.hbm, 200, rfl⟩
abbrev main_call0_call0_v128 : Ref sig .tc := ⟨.hbm, 201, rfl⟩
abbrev main_call0_call0_v129 : Ref sig .tc := ⟨.hbm, 202, rfl⟩
abbrev main_call0_call0_c_33 : Ref sig .tc := ⟨.hbm, 203, rfl⟩
abbrev main_call0_call0_v130 : Ref sig .tc := ⟨.hbm, 204, rfl⟩
abbrev main_call0_call0_v131 : Ref sig .tc := ⟨.hbm, 205, rfl⟩
abbrev main_call0_call0_c_34 : Ref sig .tc := ⟨.hbm, 206, rfl⟩
abbrev main_call0_call0_v132 : Ref sig .tc := ⟨.hbm, 207, rfl⟩
abbrev main_call0_call0_v133 : Ref sig .tc := ⟨.hbm, 208, rfl⟩
abbrev main_call0_call0_v134 : Ref sig .tc := ⟨.hbm, 209, rfl⟩
abbrev main_call0_call0_v135 : Ref sig .tc := ⟨.hbm, 210, rfl⟩
abbrev main_call0_call0_v136 : Ref sig .tc := ⟨.hbm, 211, rfl⟩
abbrev main_call0_call0_v137 : Ref sig .tc := ⟨.hbm, 212, rfl⟩
abbrev main_call0_call0_v138 : Ref sig .tc := ⟨.hbm, 213, rfl⟩
abbrev main_call0_call0_v139 : Ref sig .tc := ⟨.hbm, 214, rfl⟩
abbrev main_call0_call0_c_35 : Ref sig .tc := ⟨.hbm, 215, rfl⟩
abbrev main_call0_call0_v140 : Ref sig .tc := ⟨.hbm, 216, rfl⟩
abbrev main_call0_call0_v141 : Ref sig .tc := ⟨.hbm, 217, rfl⟩
abbrev main_call0_call0_v142 : Ref sig .tc := ⟨.hbm, 218, rfl⟩
abbrev main_call0_call0_c_36 : Ref sig .tc := ⟨.hbm, 219, rfl⟩
abbrev main_call0_call0_v143 : Ref sig .tc := ⟨.hbm, 220, rfl⟩
abbrev main_call0_call0_v144 : Ref sig .tc := ⟨.hbm, 221, rfl⟩
abbrev main_call0_call0_c_37 : Ref sig .tc := ⟨.hbm, 222, rfl⟩
abbrev main_call0_call0_v145 : Ref sig .tc := ⟨.hbm, 223, rfl⟩
abbrev main_call0_call0_v146 : Ref sig .tc := ⟨.hbm, 224, rfl⟩
abbrev main_call0_call0_v147 : Ref sig .tc := ⟨.hbm, 225, rfl⟩
abbrev main_call0_call0_v148 : Ref sig .tc := ⟨.hbm, 226, rfl⟩
abbrev main_call0_call0_v149 : Ref sig .tc := ⟨.hbm, 227, rfl⟩
abbrev main_call0_call0_c_38 : Ref sig .tc := ⟨.hbm, 228, rfl⟩
abbrev main_call0_call0_v150 : Ref sig .tc := ⟨.hbm, 229, rfl⟩
abbrev main_call0_call0_v151 : Ref sig .tc := ⟨.hbm, 230, rfl⟩
abbrev main_call0_call0_c_39 : Ref sig .tc := ⟨.hbm, 231, rfl⟩
abbrev main_call0_call0_v152 : Ref sig .tc := ⟨.hbm, 232, rfl⟩
abbrev main_call0_call0_v153 : Ref sig .tc := ⟨.hbm, 233, rfl⟩
abbrev main_call0_call0_v154 : Ref sig .tc := ⟨.hbm, 234, rfl⟩
abbrev main_call0_call0_v155 : Ref sig .tc := ⟨.hbm, 235, rfl⟩
abbrev main_call0_call0_v156 : Ref sig .tc := ⟨.hbm, 236, rfl⟩
abbrev main_call0_call0_c_40 : Ref sig .tc := ⟨.hbm, 237, rfl⟩
abbrev main_call0_call0_v157 : Ref sig .tc := ⟨.hbm, 238, rfl⟩
abbrev main_call0_call0_v158 : Ref sig .tc := ⟨.hbm, 239, rfl⟩
abbrev main_call0_call0_c_41 : Ref sig .tc := ⟨.hbm, 240, rfl⟩
abbrev main_call0_call0_v159 : Ref sig .tc := ⟨.hbm, 241, rfl⟩
abbrev main_call0_call0_v160 : Ref sig .tc := ⟨.hbm, 242, rfl⟩
abbrev main_call0_call0_v161 : Ref sig .tc := ⟨.hbm, 243, rfl⟩
abbrev main_call0_call0_v162 : Ref sig .tc := ⟨.hbm, 244, rfl⟩
abbrev main_call0_call0_v163 : Ref sig .tc := ⟨.hbm, 245, rfl⟩
abbrev main_call0_call0_c_42 : Ref sig .tc := ⟨.hbm, 246, rfl⟩
abbrev main_call0_call0_v164 : Ref sig .tc := ⟨.hbm, 247, rfl⟩
abbrev main_call0_call0_v165 : Ref sig .tc := ⟨.hbm, 248, rfl⟩
abbrev main_call0_call0_c_43 : Ref sig .tc := ⟨.hbm, 249, rfl⟩
abbrev main_call0_call0_v166 : Ref sig .tc := ⟨.hbm, 250, rfl⟩
abbrev main_call0_call0_v167 : Ref sig .tc := ⟨.hbm, 251, rfl⟩
abbrev main_call0_call0_v168 : Ref sig .tc := ⟨.hbm, 252, rfl⟩
abbrev main_call0_call0_v169 : Ref sig .tc := ⟨.hbm, 253, rfl⟩
abbrev main_call0_call0_v170 : Ref sig .tc := ⟨.hbm, 254, rfl⟩
abbrev main_call0_v19_0 : Ref sig .tc := ⟨.hbm, 255, rfl⟩
abbrev main_call0_call0_v172 : Ref sig .tc := ⟨.hbm, 256, rfl⟩
abbrev main_call0_call0_v173 : Ref sig .tc := ⟨.hbm, 257, rfl⟩
abbrev main_call0_call0_c_44 : Ref sig .tc := ⟨.hbm, 258, rfl⟩
abbrev main_call0_call0_v174 : Ref sig .tc := ⟨.hbm, 259, rfl⟩
abbrev main_call0_v19_1 : Ref sig .tc := ⟨.hbm, 260, rfl⟩
abbrev main_call0_v20 : Ref sig .tc := ⟨.hbm, 261, rfl⟩
abbrev main_call0_c_2 : Ref sig .tc := ⟨.hbm, 262, rfl⟩
abbrev main_call0_v21 : Ref sig .tc := ⟨.hbm, 263, rfl⟩
abbrev main_call0_v22 : Ref sig .tc := ⟨.hbm, 264, rfl⟩
abbrev main_call0_c_3 : Ref sig .tc := ⟨.hbm, 265, rfl⟩
abbrev main_call0_v23 : Ref sig .tc := ⟨.hbm, 266, rfl⟩
abbrev main_call0_v24 : Ref sig .tc := ⟨.hbm, 267, rfl⟩
abbrev main_call0_v25 : Ref sig .tc := ⟨.hbm, 268, rfl⟩
abbrev main_call0_cst : Ref sig .tc := ⟨.hbm, 269, rfl⟩
abbrev main_call0_v26 : Ref sig .tc := ⟨.hbm, 270, rfl⟩
abbrev main_call0_v27 : Ref sig .tc := ⟨.hbm, 271, rfl⟩
abbrev main_call0_v28 : Ref sig .tc := ⟨.hbm, 272, rfl⟩
abbrev main_call0_v29 : Ref sig .tc := ⟨.hbm, 273, rfl⟩
abbrev main_call0_v30 : Ref sig .tc := ⟨.hbm, 274, rfl⟩
abbrev main_call0_v31 : Ref sig .tc := ⟨.hbm, 275, rfl⟩
abbrev main_call0_v32 : Ref sig .tc := ⟨.hbm, 276, rfl⟩
abbrev main_call0_v33 : Ref sig .tc := ⟨.hbm, 277, rfl⟩
abbrev main_v10 : Ref sig .tc := ⟨.hbm, 278, rfl⟩
abbrev main_cst_3 : Ref sig .tc := ⟨.hbm, 279, rfl⟩
abbrev main_v11 : Ref sig .tc := ⟨.hbm, 280, rfl⟩
abbrev main_v12 : Ref sig .tc := ⟨.hbm, 281, rfl⟩
abbrev main_v13 : Ref sig .tc := ⟨.hbm, 282, rfl⟩
abbrev main_v14 : Ref sig .tc := ⟨.hbm, 283, rfl⟩
abbrev main_cst_4 : Ref sig .tc := ⟨.hbm, 284, rfl⟩
abbrev main_v15 : Ref sig .tc := ⟨.hbm, 285, rfl⟩
abbrev main_v16 : Ref sig .tc := ⟨.hbm, 286, rfl⟩
abbrev main_v17 : Ref sig .tc := ⟨.hbm, 287, rfl⟩
abbrev main_v18 : Ref sig .tc := ⟨.hbm, 288, rfl⟩
abbrev main_cst_5 : Ref sig .tc := ⟨.hbm, 289, rfl⟩
abbrev main_v19 : Ref sig .tc := ⟨.hbm, 290, rfl⟩
abbrev main_v20 : Ref sig .tc := ⟨.hbm, 291, rfl⟩
abbrev main_v21 : Ref sig .tc := ⟨.hbm, 292, rfl⟩
abbrev main_cst_6 : Ref sig .tc := ⟨.hbm, 293, rfl⟩
abbrev main_v22 : Ref sig .tc := ⟨.hbm, 294, rfl⟩
abbrev main_v23 : Ref sig .tc := ⟨.hbm, 295, rfl⟩
abbrev main_cst_7 : Ref sig .tc := ⟨.hbm, 296, rfl⟩
abbrev main_v24 : Ref sig .tc := ⟨.hbm, 297, rfl⟩
abbrev main_cst_8 : Ref sig .tc := ⟨.hbm, 298, rfl⟩
abbrev main_v25 : Ref sig .tc := ⟨.hbm, 299, rfl⟩
abbrev main_v26 : Ref sig .tc := ⟨.hbm, 300, rfl⟩
abbrev main_v27 : Ref sig .tc := ⟨.hbm, 301, rfl⟩
abbrev main_v28 : Ref sig .tc := ⟨.hbm, 302, rfl⟩
abbrev main_v29 : Ref sig .tc := ⟨.hbm, 303, rfl⟩
abbrev main_v30 : Ref sig .tc := ⟨.hbm, 304, rfl⟩
abbrev main_cst_9 : Ref sig .tc := ⟨.hbm, 305, rfl⟩
abbrev main_v31 : Ref sig .tc := ⟨.hbm, 306, rfl⟩
abbrev main_v32 : Ref sig .tc := ⟨.hbm, 307, rfl⟩
abbrev main_v33 : Ref sig .tc := ⟨.hbm, 308, rfl⟩
abbrev main_v34 : Ref sig .tc := ⟨.hbm, 309, rfl⟩
abbrev main_cst_10 : Ref sig .tc := ⟨.hbm, 310, rfl⟩
abbrev main_v35 : Ref sig .tc := ⟨.hbm, 311, rfl⟩
abbrev main_v36 : Ref sig .tc := ⟨.hbm, 312, rfl⟩
abbrev main_cst_11 : Ref sig .tc := ⟨.hbm, 313, rfl⟩
abbrev main_v37 : Ref sig .tc := ⟨.hbm, 314, rfl⟩
abbrev main_v38 : Ref sig .tc := ⟨.hbm, 315, rfl⟩
abbrev main_cst_12 : Ref sig .tc := ⟨.hbm, 316, rfl⟩
abbrev main_v39 : Ref sig .tc := ⟨.hbm, 317, rfl⟩
abbrev main_v40 : Ref sig .tc := ⟨.hbm, 318, rfl⟩
abbrev main_v41 : Ref sig .tc := ⟨.hbm, 319, rfl⟩
abbrev main_v42 : Ref sig .tc := ⟨.hbm, 320, rfl⟩
abbrev main_values : Ref sig .tc := ⟨.hbm, 321, rfl⟩
abbrev main_indices : Ref sig .tc := ⟨.hbm, 322, rfl⟩
abbrev main_cst_13 : Ref sig .tc := ⟨.hbm, 323, rfl⟩
abbrev main_v43 : Ref sig .tc := ⟨.hbm, 324, rfl⟩
abbrev main_v44 : Ref sig .tc := ⟨.hbm, 325, rfl⟩
abbrev main_v45 : Ref sig .tc := ⟨.hbm, 326, rfl⟩
abbrev main_v46 : Ref sig .tc := ⟨.hbm, 327, rfl⟩
abbrev main_v47 : Ref sig .tc := ⟨.hbm, 328, rfl⟩
abbrev main_v48 : Ref sig .tc := ⟨.hbm, 329, rfl⟩
abbrev main_v49 : Ref sig .tc := ⟨.hbm, 330, rfl⟩
abbrev main_v50 : Ref sig .tc := ⟨.hbm, 331, rfl⟩
abbrev main_c_14 : Ref sig .tc := ⟨.hbm, 332, rfl⟩
abbrev main_v51 : Ref sig .tc := ⟨.hbm, 333, rfl⟩
abbrev main_c_15 : Ref sig .tc := ⟨.hbm, 334, rfl⟩
abbrev main_v52 : Ref sig .tc := ⟨.hbm, 335, rfl⟩
abbrev main_v53 : Ref sig .tc := ⟨.hbm, 336, rfl⟩
abbrev main_c_16 : Ref sig .tc := ⟨.hbm, 337, rfl⟩
abbrev main_v54 : Ref sig .tc := ⟨.hbm, 338, rfl⟩
abbrev main_v55 : Ref sig .tc := ⟨.hbm, 339, rfl⟩
abbrev main_v56 : Ref sig .tc := ⟨.hbm, 340, rfl⟩
abbrev main_c_17 : Ref sig .tc := ⟨.hbm, 341, rfl⟩
abbrev main_v57 : Ref sig .tc := ⟨.hbm, 342, rfl⟩
abbrev main_v58 : Ref sig .tc := ⟨.hbm, 343, rfl⟩
abbrev main_c_18 : Ref sig .tc := ⟨.hbm, 344, rfl⟩
abbrev main_v59 : Ref sig .tc := ⟨.hbm, 345, rfl⟩
abbrev main_v60 : Ref sig .tc := ⟨.hbm, 346, rfl⟩
abbrev main_v61 : Ref sig .tc := ⟨.hbm, 347, rfl⟩
abbrev main_c_19 : Ref sig .tc := ⟨.hbm, 348, rfl⟩
abbrev main_v62 : Ref sig .tc := ⟨.hbm, 349, rfl⟩
abbrev main_v63 : Ref sig .tc := ⟨.hbm, 350, rfl⟩
abbrev main_c_20 : Ref sig .tc := ⟨.hbm, 351, rfl⟩
abbrev main_v64 : Ref sig .tc := ⟨.hbm, 352, rfl⟩
abbrev main_v65 : Ref sig .tc := ⟨.hbm, 353, rfl⟩
abbrev main_v66 : Ref sig .tc := ⟨.hbm, 354, rfl⟩
abbrev main_v67 : Ref sig .tc := ⟨.hbm, 355, rfl⟩
abbrev main_v68 : Ref sig .tc := ⟨.hbm, 356, rfl⟩
abbrev main_v69 : Ref sig .tc := ⟨.hbm, 357, rfl⟩
abbrev main_v70 : Ref sig .tc := ⟨.hbm, 358, rfl⟩
abbrev main_v71 : Ref sig .tc := ⟨.hbm, 359, rfl⟩
abbrev main_v72 : Ref sig .tc := ⟨.hbm, 360, rfl⟩
abbrev main_c_21 : Ref sig .tc := ⟨.hbm, 361, rfl⟩
abbrev main_v73 : Ref sig .tc := ⟨.hbm, 362, rfl⟩
abbrev main_v74 : Ref sig .tc := ⟨.hbm, 363, rfl⟩
abbrev main_cst_22 : Ref sig .tc := ⟨.hbm, 364, rfl⟩
abbrev main_v75 : Ref sig .tc := ⟨.hbm, 365, rfl⟩
abbrev main_c_23 : Ref sig .tc := ⟨.hbm, 366, rfl⟩
abbrev main_v76 : Ref sig .tc := ⟨.hbm, 367, rfl⟩
abbrev main_v77 : Ref sig .tc := ⟨.hbm, 368, rfl⟩
abbrev main_c_24 : Ref sig .tc := ⟨.hbm, 369, rfl⟩
abbrev main_v78 : Ref sig .tc := ⟨.hbm, 370, rfl⟩
abbrev main_v79 : Ref sig .tc := ⟨.hbm, 371, rfl⟩
abbrev main_v80 : Ref sig .tc := ⟨.hbm, 372, rfl⟩
abbrev main_c_25 : Ref sig .tc := ⟨.hbm, 373, rfl⟩
abbrev main_v81 : Ref sig .tc := ⟨.hbm, 374, rfl⟩
abbrev main_v82 : Ref sig .tc := ⟨.hbm, 375, rfl⟩
abbrev main_c_26 : Ref sig .tc := ⟨.hbm, 376, rfl⟩
abbrev main_v83 : Ref sig .tc := ⟨.hbm, 377, rfl⟩
abbrev main_v84 : Ref sig .tc := ⟨.hbm, 378, rfl⟩
abbrev main_v85 : Ref sig .tc := ⟨.hbm, 379, rfl⟩
abbrev main_c_27 : Ref sig .tc := ⟨.hbm, 380, rfl⟩
abbrev main_v86 : Ref sig .tc := ⟨.hbm, 381, rfl⟩
abbrev main_v87 : Ref sig .tc := ⟨.hbm, 382, rfl⟩
abbrev main_c_28 : Ref sig .tc := ⟨.hbm, 383, rfl⟩
abbrev main_v88 : Ref sig .tc := ⟨.hbm, 384, rfl⟩
abbrev main_v89 : Ref sig .tc := ⟨.hbm, 385, rfl⟩
abbrev main_v90 : Ref sig .tc := ⟨.hbm, 386, rfl⟩
abbrev main_v91 : Ref sig .tc := ⟨.hbm, 387, rfl⟩
abbrev main_v92 : Ref sig .tc := ⟨.hbm, 388, rfl⟩
abbrev main_v93 : Ref sig .tc := ⟨.hbm, 389, rfl⟩
abbrev main_v94 : Ref sig .tc := ⟨.hbm, 390, rfl⟩
abbrev main_v95 : Ref sig .tc := ⟨.hbm, 391, rfl⟩
abbrev main_v96 : Ref sig .tc := ⟨.hbm, 392, rfl⟩
abbrev main_v97 : Ref sig .tc := ⟨.hbm, 393, rfl⟩
abbrev main_v98 : Ref sig .tc := ⟨.hbm, 394, rfl⟩
abbrev main_cst_29 : Ref sig .tc := ⟨.hbm, 395, rfl⟩
abbrev main_v99 : Ref sig .tc := ⟨.hbm, 396, rfl⟩
abbrev main_cst_30 : Ref sig .tc := ⟨.hbm, 397, rfl⟩
abbrev main_v100 : Ref sig .tc := ⟨.hbm, 398, rfl⟩
abbrev main_cst_31 : Ref sig .tc := ⟨.hbm, 399, rfl⟩
abbrev main_v101 : Ref sig .tc := ⟨.hbm, 400, rfl⟩
abbrev main_v102 : Ref sig .tc := ⟨.hbm, 401, rfl⟩
abbrev main_v103 : Ref sig .tc := ⟨.hbm, 402, rfl⟩
abbrev main_cst_32 : Ref sig .tc := ⟨.hbm, 403, rfl⟩
abbrev main_v104 : Ref sig .tc := ⟨.hbm, 404, rfl⟩
abbrev main_cst_33 : Ref sig .tc := ⟨.hbm, 405, rfl⟩
abbrev main_v105 : Ref sig .tc := ⟨.hbm, 406, rfl⟩
abbrev main_v106 : Ref sig .tc := ⟨.hbm, 407, rfl⟩
abbrev main_v107 : Ref sig .tc := ⟨.hbm, 408, rfl⟩
abbrev main_cst_34 : Ref sig .tc := ⟨.hbm, 409, rfl⟩
abbrev main_v108 : Ref sig .tc := ⟨.hbm, 410, rfl⟩
abbrev main_cst_35 : Ref sig .tc := ⟨.hbm, 411, rfl⟩
abbrev main_v109 : Ref sig .tc := ⟨.hbm, 412, rfl⟩
abbrev main_cst_36 : Ref sig .tc := ⟨.hbm, 413, rfl⟩
abbrev main_cst_37 : Ref sig .tc := ⟨.hbm, 414, rfl⟩
abbrev main_call1_v0 : Ref sig .tc := ⟨.hbm, 415, rfl⟩
abbrev main_call1_v1 : Ref sig .tc := ⟨.hbm, 416, rfl⟩
abbrev main_call1_v2 : Ref sig .tc := ⟨.hbm, 417, rfl⟩
abbrev main_v110 : Ref sig .tc := ⟨.hbm, 418, rfl⟩
abbrev main_cst_38 : Ref sig .tc := ⟨.hbm, 419, rfl⟩
abbrev main_v111 : Ref sig .tc := ⟨.hbm, 420, rfl⟩
abbrev main_cst_39 : Ref sig .tc := ⟨.hbm, 421, rfl⟩
abbrev main_v112 : Ref sig .tc := ⟨.hbm, 422, rfl⟩
abbrev main_v113 : Ref sig .tc := ⟨.hbm, 423, rfl⟩
abbrev main_c_40 : Ref sig .tc := ⟨.hbm, 424, rfl⟩
abbrev main_call2_cst : Ref sig .tc := ⟨.hbm, 425, rfl⟩
abbrev main_call2_v0 : Ref sig .tc := ⟨.hbm, 426, rfl⟩
abbrev main_call2_v1 : Ref sig .tc := ⟨.hbm, 427, rfl⟩
abbrev main_call2_cst_0 : Ref sig .tc := ⟨.hbm, 428, rfl⟩
abbrev main_call2_v2 : Ref sig .tc := ⟨.hbm, 429, rfl⟩
abbrev main_call2_v3 : Ref sig .tc := ⟨.hbm, 430, rfl⟩
abbrev main_call2_v4 : Ref sig .tc := ⟨.hbm, 431, rfl⟩
abbrev main_call2_v5 : Ref sig .tc := ⟨.hbm, 432, rfl⟩
abbrev main_call2_v6 : Ref sig .tc := ⟨.hbm, 433, rfl⟩
abbrev main_call2_v7 : Ref sig .tc := ⟨.hbm, 434, rfl⟩
abbrev main_call2_cst_1 : Ref sig .tc := ⟨.hbm, 435, rfl⟩
abbrev main_call2_v8 : Ref sig .tc := ⟨.hbm, 436, rfl⟩
abbrev main_call2_cst_2 : Ref sig .tc := ⟨.hbm, 437, rfl⟩
abbrev main_call2_v9 : Ref sig .tc := ⟨.hbm, 438, rfl⟩
abbrev main_call2_v10 : Ref sig .tc := ⟨.hbm, 439, rfl⟩
abbrev main_call2_cst_3 : Ref sig .tc := ⟨.hbm, 440, rfl⟩
abbrev main_call2_v11 : Ref sig .tc := ⟨.hbm, 441, rfl⟩
abbrev main_call2_cst_4 : Ref sig .tc := ⟨.hbm, 442, rfl⟩
abbrev main_call2_call0_v0 : Ref sig .tc := ⟨.hbm, 443, rfl⟩
abbrev main_v114 : Ref sig .tc := ⟨.hbm, 444, rfl⟩
abbrev main_cst_41 : Ref sig .tc := ⟨.hbm, 445, rfl⟩
abbrev main_v115 : Ref sig .tc := ⟨.hbm, 446, rfl⟩
abbrev main_cst_42 : Ref sig .tc := ⟨.hbm, 447, rfl⟩
abbrev main_v116 : Ref sig .tc := ⟨.hbm, 448, rfl⟩
abbrev main_v117 : Ref sig .tc := ⟨.hbm, 449, rfl⟩
abbrev main_cst_43 : Ref sig .tc := ⟨.hbm, 450, rfl⟩
abbrev main_v118 : Ref sig .tc := ⟨.hbm, 451, rfl⟩
abbrev main_v119 : Ref sig .tc := ⟨.hbm, 452, rfl⟩
abbrev main_cst_44 : Ref sig .tc := ⟨.hbm, 453, rfl⟩
abbrev main_cst_45 : Ref sig .tc := ⟨.hbm, 454, rfl⟩
abbrev main_call3_v0 : Ref sig .tc := ⟨.hbm, 455, rfl⟩
abbrev main_call3_v1 : Ref sig .tc := ⟨.hbm, 456, rfl⟩
abbrev main_call3_v2 : Ref sig .tc := ⟨.hbm, 457, rfl⟩
abbrev main_v120 : Ref sig .tc := ⟨.hbm, 458, rfl⟩
abbrev main_cst_46 : Ref sig .tc := ⟨.hbm, 459, rfl⟩
abbrev main_v121 : Ref sig .tc := ⟨.hbm, 460, rfl⟩
abbrev main_v122 : Ref sig .tc := ⟨.hbm, 461, rfl⟩
abbrev main_v123 : Ref sig .tc := ⟨.hbm, 462, rfl⟩
abbrev main_v124 : Ref sig .tc := ⟨.hbm, 463, rfl⟩
abbrev main_cst_47 : Ref sig .tc := ⟨.hbm, 464, rfl⟩
abbrev main_v125 : Ref sig .tc := ⟨.hbm, 465, rfl⟩
abbrev main_v126 : Ref sig .tc := ⟨.hbm, 466, rfl⟩
abbrev main_cst_48 : Ref sig .tc := ⟨.hbm, 467, rfl⟩
abbrev main_v127 : Ref sig .tc := ⟨.hbm, 468, rfl⟩
abbrev main_cst_49 : Ref sig .tc := ⟨.hbm, 469, rfl⟩
abbrev main_v128 : Ref sig .tc := ⟨.hbm, 470, rfl⟩
abbrev main_cst_50 : Ref sig .tc := ⟨.hbm, 471, rfl⟩
abbrev main_v129 : Ref sig .tc := ⟨.hbm, 472, rfl⟩
abbrev main_v130 : Ref sig .tc := ⟨.hbm, 473, rfl⟩
abbrev main_cst_51 : Ref sig .tc := ⟨.hbm, 474, rfl⟩
abbrev main_v131 : Ref sig .tc := ⟨.hbm, 475, rfl⟩
abbrev main_cst_52 : Ref sig .tc := ⟨.hbm, 476, rfl⟩
abbrev main_v132 : Ref sig .tc := ⟨.hbm, 477, rfl⟩
abbrev main_cst_53 : Ref sig .tc := ⟨.hbm, 478, rfl⟩
abbrev main_cst_54 : Ref sig .tc := ⟨.hbm, 479, rfl⟩
abbrev main_call4_v0 : Ref sig .tc := ⟨.hbm, 480, rfl⟩
abbrev main_call4_v1 : Ref sig .tc := ⟨.hbm, 481, rfl⟩
abbrev main_call4_v2 : Ref sig .tc := ⟨.hbm, 482, rfl⟩
abbrev main_v133 : Ref sig .tc := ⟨.hbm, 483, rfl⟩
abbrev main_cst_55 : Ref sig .tc := ⟨.hbm, 484, rfl⟩
abbrev main_v134 : Ref sig .tc := ⟨.hbm, 485, rfl⟩
abbrev main_v135 : Ref sig .tc := ⟨.hbm, 486, rfl⟩
abbrev main_v136 : Ref sig .tc := ⟨.hbm, 487, rfl⟩
abbrev main_cst_56 : Ref sig .tc := ⟨.hbm, 488, rfl⟩
abbrev main_v137 : Ref sig .tc := ⟨.hbm, 489, rfl⟩
abbrev main_v138 : Ref sig .tc := ⟨.hbm, 490, rfl⟩
abbrev main_cst_57 : Ref sig .tc := ⟨.hbm, 491, rfl⟩
abbrev main_call5_v0 : Ref sig .tc := ⟨.hbm, 492, rfl⟩
abbrev main_call5_v1 : Ref sig .tc := ⟨.hbm, 493, rfl⟩
abbrev main_v139 : Ref sig .tc := ⟨.hbm, 494, rfl⟩
abbrev main_v140 : Ref sig .tc := ⟨.hbm, 495, rfl⟩
abbrev main_v141 : Ref sig .tc := ⟨.hbm, 496, rfl⟩
abbrev main_v142 : Ref sig .tc := ⟨.hbm, 497, rfl⟩
abbrev main_cst_58 : Ref sig .tc := ⟨.hbm, 498, rfl⟩
abbrev main_v143 : Ref sig .tc := ⟨.hbm, 499, rfl⟩
abbrev main_v144 : Ref sig .tc := ⟨.hbm, 500, rfl⟩
abbrev main_v145 : Ref sig .tc := ⟨.hbm, 501, rfl⟩
abbrev main_v146 : Ref sig .tc := ⟨.hbm, 502, rfl⟩
abbrev main_v147 : Ref sig .tc := ⟨.hbm, 503, rfl⟩
abbrev main_cst_59 : Ref sig .tc := ⟨.hbm, 504, rfl⟩
abbrev main_v148 : Ref sig .tc := ⟨.hbm, 505, rfl⟩
abbrev main_cst_60 : Ref sig .tc := ⟨.hbm, 506, rfl⟩
abbrev main_v149 : Ref sig .tc := ⟨.hbm, 507, rfl⟩
abbrev main_cst_61 : Ref sig .tc := ⟨.hbm, 508, rfl⟩
abbrev main_cst_62 : Ref sig .tc := ⟨.hbm, 509, rfl⟩
abbrev main_call6_v0 : Ref sig .tc := ⟨.hbm, 510, rfl⟩
abbrev main_call6_v1 : Ref sig .tc := ⟨.hbm, 511, rfl⟩
abbrev main_call6_v2 : Ref sig .tc := ⟨.hbm, 512, rfl⟩
abbrev main_v150 : Ref sig .tc := ⟨.hbm, 513, rfl⟩
abbrev main_cst_63 : Ref sig .tc := ⟨.hbm, 514, rfl⟩
abbrev main_v151 : Ref sig .tc := ⟨.hbm, 515, rfl⟩
abbrev main_v152 : Ref sig .tc := ⟨.hbm, 516, rfl⟩
abbrev main_v153 : Ref sig .tc := ⟨.hbm, 517, rfl⟩
abbrev main_v154 : Ref sig .tc := ⟨.hbm, 518, rfl⟩
abbrev main_cst_64 : Ref sig .tc := ⟨.hbm, 519, rfl⟩
abbrev main_v155 : Ref sig .tc := ⟨.hbm, 520, rfl⟩
abbrev main_v156 : Ref sig .tc := ⟨.hbm, 521, rfl⟩
abbrev main_v157 : Ref sig .tc := ⟨.hbm, 522, rfl⟩
abbrev main_v158 : Ref sig .tc := ⟨.hbm, 523, rfl⟩

abbrev nD : Nat := 1
abbrev τ : Topo := Topo.v7x

variable {F : FTy → Type} [FloatOps F]
-- ==== Proof.Row.lean ====
module

public import Idealize.ShloMosaic.Lib.SortPrefix
public import Idealize.ShloMosaic.PureOps.Ideal.Laws

@[expose] public section

/-!
One row of the router: its scores over the sixteen experts from the logits, the two experts the row picks and their
weights, as functions of sixteen extended reals; and that the two picks are what a stable sort of the row puts first.
-/

noncomputable section

namespace Cert.Proof.Row

open Idealize.ShloMosaic

/-- A row of sixteen values. -/
abbrev Vals := Fin 16 → EReal

/-- The greatest value of a row. -/
def top (s : Vals) : EReal := Finset.univ.fold max (Ideal.ofBits .f32 0xFF800000#32) s

/-- The softmax of a row, shrunk and lifted by the least probability. -/
def lifted (z : Vals) (e : Fin 16) : EReal :=
  Ideal.div (Ideal.exp (z e - top z)) (∑ x, Ideal.exp (z x - top z)) * Ideal.ofBits .f32 0x3F7BE76D#32
    + Ideal.ofBits .f32 0x3A83126F#32

/-- The scores of a row of logits. -/
def score (z : Vals) (e : Fin 16) : EReal := Ideal.div (lifted z e) (∑ x, lifted z x)

/-- The word of the first position that holds a row's greatest value. -/
def argTop (s : Vals) : BitVec 32 :=
  Finset.univ.fold IntOp.minsi 2147483647#32 fun x : Fin 16 => if s x = top s then BitVec.ofNat 32 x.val else 16#32

/-- A row with its first greatest value taken out. -/
def rest (s : Vals) (x : Fin 16) : EReal :=
  Scalar.select (IntOp.cmpi .eq (BitVec.ofNat 32 x.val) (argTop s)) (Ideal.ofBits .f32 0xFF800000#32) (s x)

/-- The expert a row's choice `k` picks, as a word. -/
def pick (s : Vals) (k : Fin 2) : BitVec 32 := if k = 0 then argTop s else argTop (rest s)

/-- The value a row's choice `k` picks. -/
def best (s : Vals) (k : Fin 2) : EReal := if k = 0 then top s else top (rest s)

/-- The weight of choice `k`. -/
def weight (s : Vals) (k : Fin 2) : EReal := Ideal.div (best s k) (best s 0 + best s 1)

/-- Whether choice `k` picks expert `e`. -/
def hit (s : Vals) (e : Fin 16) (k : Fin 2) : BitVec 1 := IntOp.cmpi .eq (BitVec.ofNat 32 e.val) (pick s k)

/-- The weight with which choice `k` sends the row to expert `e`. -/
def comb (s : Vals) (e : Fin 16) (k : Fin 2) : EReal := if hit s e k = 1#1 then weight s k else 0

/-- The entropy of a row before its sign. -/
def plogp (s : Vals) : EReal := ∑ x, s x * Ideal.log (s x + Ideal.ofBits .f32 0x2EDBE6FF#32)

/-- The log of the sum of exponentials of a row. -/
def lse (s : Vals) : EReal := top s + Ideal.log (∑ x, Ideal.exp (s x - top s))

/-! ### Constants -/

theorem negInf : Ideal.ofBits .f32 0xFF800000#32 = (⊥ : EReal) := by simp [Ideal.ofBits, Ideal.ieee]
theorem posInf : Ideal.ofBits .f32 0x7F800000#32 = (⊤ : EReal) := by simp [Ideal.ofBits, Ideal.ieee]

/-! ### The greatest value and its first position -/

theorem top_eq_sup (s : Vals) : top s = Finset.univ.sup s := by
  unfold top; rw [negInf]; rfl

theorem le_top (s : Vals) (x : Fin 16) : s x ≤ top s := by
  rw [top_eq_sup]; exact Finset.le_sup (Finset.mem_univ x)

theorem exists_top (s : Vals) : ∃ x, s x = top s := by
  obtain ⟨x, _, h⟩ := Finset.exists_mem_eq_sup Finset.univ ⟨0, Finset.mem_univ _⟩ s
  exact ⟨x, by rw [top_eq_sup]; exact h.symm⟩

theorem toInt_minsi (a b : BitVec 32) : (IntOp.minsi a b).toInt = min a.toInt b.toInt := by
  unfold IntOp.minsi
  simp only [BitVec.slt_iff_toInt_lt]
  split <;> omega

/-- A fold of signed minima is a value it takes that is below all of them. -/
theorem fold_minsi {ι : Type} [Fintype ι] (b v : BitVec 32) (f : ι → BitVec 32) (i : ι) (hi : f i = v)
    (hb : v.toInt ≤ b.toInt) (hf : ∀ j, v.toInt ≤ (f j).toInt) : Finset.univ.fold IntOp.minsi b f = v := by
  refine BitVec.eq_of_toInt_eq ?_
  have h := Finset.fold_hom (op := IntOp.minsi) (op' := (min : Int → Int → Int)) (s := Finset.univ) (b := b) (f := f)
    (m := BitVec.toInt) toInt_minsi
  rw [← h]
  refine le_antisymm ?_ ?_
  · exact Finset.fold_min_le _ |>.2 (Or.inr ⟨i, Finset.mem_univ _, by rw [hi]⟩)
  · exact Finset.le_fold_min _ |>.2 ⟨hb, fun j _ => hf j⟩

theorem toInt_small (n : Nat) (h : n < 17) : (BitVec.ofNat 32 n).toInt = n := by
  interval_cases n <;> rfl

/-- The first position of a row's greatest value. -/
theorem exists_first (s : Vals) : ∃ i : Fin 16, s i = top s ∧ (∀ j < i, s j < top s) ∧ argTop s = BitVec.ofNat 32 i.val := by
  classical
  have hne : (Finset.univ.filter fun x => s x = top s).Nonempty := by
    obtain ⟨x, h⟩ := exists_top s
    exact ⟨x, by simp [h]⟩
  have hi : s ((Finset.univ.filter fun x => s x = top s).min' hne) = top s := by
    have := Finset.min'_mem _ hne
    simpa using this
  have hmin : ∀ j, s j = top s → (Finset.univ.filter fun x => s x = top s).min' hne ≤ j := fun j hj =>
    Finset.min'_le _ j (by simp [hj])
  generalize (Finset.univ.filter fun x => s x = top s).min' hne = i at hi hmin
  refine ⟨i, hi, fun j hj => lt_of_le_of_ne (le_top s j) fun h => absurd (hmin j h) (not_le.2 hj), ?_⟩
  refine fold_minsi _ _ _ i (if_pos hi) ?_ fun j => ?_
  · rw [toInt_small _ (by omega)]
    have h : (2147483647#32).toInt = 2147483647 := by decide
    rw [h]; omega
  · by_cases h : s j = top s
    · rw [if_pos h, toInt_small _ (by omega), toInt_small _ (by omega)]
      exact_mod_cast hmin j h
    · rw [if_neg h, toInt_small _ (by omega)]
      have h : (16#32).toInt = 16 := by decide
      rw [h]; omega

theorem ofNat_inj (i j : Fin 16) : BitVec.ofNat 32 i.val = BitVec.ofNat 32 j.val ↔ i = j := by
  constructor
  · intro h
    have := congrArg BitVec.toNat h
    simp only [BitVec.toNat_ofNat] at this
    exact Fin.ext (by omega)
  · rintro rfl; rfl

theorem cmpi_eq_iff (a b : BitVec 32) : IntOp.cmpi .eq a b = 1#1 ↔ a = b := by
  unfold IntOp.cmpi
  by_cases h : a = b
  · simp [h]
  · have h' : (a == b) = false := by simpa using h
    simp [h, h']

/-- The two picks of a row none of whose values is below all: the first greatest, and the first greatest of the others. -/
theorem exists_picks (s : Vals) (hs : ∀ x, s x ≠ ⊥) : ∃ i : Fin 2 → Fin 16,
    (∀ k, pick s k = BitVec.ofNat 32 (i k).val) ∧ (∀ k, best s k = s (i k)) ∧ i 0 ≠ i 1
      ∧ (∀ j, s j ≤ s (i 0)) ∧ (∀ j < i 0, s j < s (i 0))
      ∧ (∀ j, j ≠ i 0 → s j ≤ s (i 1)) ∧ (∀ j < i 1, j ≠ i 0 → s j < s (i 1)) := by
  obtain ⟨a, ha, ha', hwa⟩ := exists_first s
  obtain ⟨b, hb, hb', hwb⟩ := exists_first (rest s)
  have hrest : ∀ x, rest s x = if x = a then ⊥ else s x := fun x => by
    unfold rest Scalar.select
    rw [hwa, negInf]
    refine ite_congr (propext ?_) (fun _ => rfl) fun _ => rfl
    exact (cmpi_eq_iff _ _).trans (ofNat_inj x a)
  have hne : a ≠ b := by
    intro h
    obtain ⟨c, hc⟩ : ∃ c : Fin 16, c ≠ a := exists_ne a
    have h1 := le_top (rest s) c
    rw [← hb, hrest, hrest, if_neg hc, if_pos h.symm, le_bot_iff] at h1
    exact hs c h1
  have hb2 : rest s b = s b := by rw [hrest, if_neg hne.symm]
  refine ⟨![a, b], fun k => ?_, fun k => ?_, hne, fun j => ?_, fun j hj => ?_, fun j hj => ?_, fun j hj hja => ?_⟩
  · fin_cases k
    · exact hwa
    · exact hwb
  · fin_cases k
    · exact ha.symm
    · exact (hb.symm.trans hb2)
  · exact (le_top s j).trans_eq ha.symm
  · exact (ha' j hj).trans_eq ha.symm
  · have := le_top (rest s) j
    rw [← hb, hb2, hrest, if_neg (show ¬j = a from hj)] at this
    exact this
  · have := hb' j hj
    rw [← hb, hb2, hrest, if_neg (show ¬j = a from hja)] at this
    exact this

/-! ### The stable sort's first two -/

/-- A stable sort depends only on whether a later element of the list is before an earlier one. -/
theorem stableSort_congr_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.1 hb)

/-- A descending stable sort of a row puts the row's two picks first. -/
theorem sorted_picks (s : Vals) (i : Fin 2 → Fin 16) (hne : i 0 ≠ i 1) (h0 : ∀ j, s j ≤ s (i 0)) (h0' : ∀ j < i 0, s j < s (i 0))
    (h1 : ∀ j, j ≠ i 0 → s j ≤ s (i 1)) (h1' : ∀ j < i 1, j ≠ i 0 → s j < s (i 1)) (k : Fin 2) :
    sortedFrom (fun a b : Fin 16 => Ideal.cmpTotal .gt (s a) (s b) == 1#1) (k.castLE (by decide)) = i k := by
  classical
  have hB := StrictTotalBefore.of_key_then_position (n := 16) (fun a b : EReal => decide (b < a)) s
    (fun a => by simp) (fun a b c hab hbc => by simp only [decide_eq_true_eq] at *; exact hbc.trans hab)
    (fun a b => by simp only [decide_eq_true_eq]; rcases lt_trichotomy a b with h | h | h <;> simp [h])
  have hR : ∀ a b, (Ideal.cmpTotal .gt (s a) (s b) == 1#1) = decide (s b < s a) := fun a b => by
    show (BitVec.ofBool (decide (s b < s a)) == 1#1) = _
    cases decide (s b < s a) <;> rfl
  have hsort : sortedFrom (fun a b : Fin 16 => Ideal.cmpTotal .gt (s a) (s b) == 1#1)
      = sortedFrom (fun k k' : Fin 16 => decide (s k' < s k) || (decide (s k = s k') && decide (k < k'))) := by
    funext k
    unfold sortedFrom
    refine List.getElem_of_eq (stableSort_congr_later _ _ _ ?_) _
    refine (List.pairwise_lt_finRange 16).imp fun {a b} hab => ?_
    rw [hR, decide_eq_false (not_lt.2 hab.le), Bool.and_false, Bool.or_false]
  rw [hsort]
  refine hB.sortedFrom_eq_of_prefix (k := 2) (by decide) i ?_ ?_ ?_ k
  · intro x y
    fin_cases x <;> fin_cases y <;> simp [hne, hne.symm]
  · intro x y hxy
    have hx : x = 0 := Fin.ext (by omega)
    have hy : y = 1 := Fin.ext (by omega)
    subst hx hy
    simp only [Bool.or_eq_false_iff, Bool.and_eq_false_iff, decide_eq_false_iff_not]
    refine ⟨not_lt.2 (h0 _), ?_⟩
    by_cases h : i 1 < i 0
    · exact Or.inl (h0' _ h).ne
    · exact Or.inr h
  · intro x p hp
    simp only [Bool.or_eq_false_iff, Bool.and_eq_false_iff, decide_eq_false_iff_not]
    have hp0 : p ≠ i 0 := (hp 0).symm
    fin_cases x
    · refine ⟨not_lt.2 (h0 _), ?_⟩
      by_cases h : p < i 0
      · exact Or.inl (h0' _ h).ne
      · exact Or.inr h
    · refine ⟨not_lt.2 (h1 _ hp0), ?_⟩
      by_cases h : p < i 1
      · exact Or.inl (h1' _ h hp0).ne
      · exact Or.inr h

/-! ### The scores are numbers -/

theorem const_lift : ∃ r : ℝ, 0 < r ∧ Ideal.ofBits .f32 0x3A83126F#32 = (r : EReal) := by
  refine ⟨_, ?_, by simp only [Ideal.ofBits, Ideal.ieee]; simp; rfl⟩
  norm_num

theorem const_shrink : ∃ r : ℝ, 0 < r ∧ Ideal.ofBits .f32 0x3F7BE76D#32 = (r : EReal) := by
  refine ⟨_, ?_, by simp only [Ideal.ofBits, Ideal.ieee]; simp; rfl⟩
  norm_num

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem coe_sum (f : Fin 16 → ℝ) : ∑ x, (f x : EReal) = ((∑ x, f x : ℝ) : EReal) :=
  (map_sum (⟨⟨fun r : ℝ => (r : EReal), EReal.coe_zero⟩, EReal.coe_add⟩ : ℝ →+ EReal) f Finset.univ).symm

/-- A score is a real number, whatever the logits. -/
theorem score_real (z : Vals) (e : Fin 16) : ∃ r : ℝ, score z e = (r : EReal) := by
  obtain ⟨c, hc, hce⟩ := const_lift
  obtain ⟨d, hd, hde⟩ := const_shrink
  by_cases h : top z = ⊤ ∨ top z = ⊥
  · have hexp : ∀ x, Ideal.exp (z x - top z) = 0 := fun x => by
      have : z x - top z = ⊥ := by
        rcases h with h | h
        · rw [h, sub_eq_add_neg, EReal.neg_top, EReal.add_bot]
        · have hx : z x = ⊥ := le_bot_iff.1 ((le_top z x).trans_eq h)
          rw [hx, sub_eq_add_neg, EReal.bot_add]
      rw [this]; rfl
    have hl : ∀ x, lifted z x = ⊥ := fun x => by
      unfold lifted
      simp only [hexp, Finset.sum_const_zero]
      have h0 : Ideal.div 0 0 = (⊥ : EReal) := by simp [Ideal.div]
      rw [h0, hde, EReal.bot_mul_coe_of_pos hd, EReal.bot_add]
    refine ⟨0, ?_⟩
    unfold score
    simp only [hl]
    have hs : ∑ _x : Fin 16, (⊥ : EReal) = ⊥ := by
      rw [Fin.sum_univ_succ, EReal.bot_add]
    rw [hs]
    simp [Ideal.div]
  · rw [not_or] at h
    obtain ⟨m, hm⟩ : ∃ m : ℝ, top z = (m : EReal) := ⟨(top z).toReal, (EReal.coe_toReal h.1 h.2).symm⟩
    have hexp : ∀ x, ∃ p : ℝ, 0 ≤ p ∧ Ideal.exp (z x - top z) = (p : EReal) := fun x => by
      rw [hm]
      have hx := (le_top z x).trans_eq hm
      induction hz : z x using EReal.rec with
      | bot => exact ⟨0, le_rfl, by rw [sub_eq_add_neg, EReal.bot_add]; rfl⟩
      | coe r => exact ⟨Real.exp (r - m), (Real.exp_pos _).le, by rw [← EReal.coe_sub]; rfl⟩
      | top => rw [hz, top_le_iff] at hx; exact absurd hx (EReal.coe_ne_top m)
    choose p hp hpe using hexp
    obtain ⟨a, ha⟩ := exists_top z
    have hpa : p a = 1 := by
      have := hpe a
      rw [ha, hm, ← EReal.coe_sub, sub_self] at this
      have h1 : Ideal.exp ((0 : ℝ) : EReal) = ((Real.exp 0 : ℝ) : EReal) := rfl
      rw [h1, Real.exp_zero] at this
      exact_mod_cast this.symm
    have hS : 0 < ∑ x, p x := Finset.sum_pos' (fun x _ => hp x) ⟨a, Finset.mem_univ _, by rw [hpa]; exact one_pos⟩
    have hl : ∀ x, lifted z x = ((p x / (∑ x, p x) * d + c : ℝ) : EReal) := fun x => by
      unfold lifted
      simp only [hpe]
      rw [coe_sum, div_coe _ _ hS.ne', hde, hce, ← EReal.coe_mul, ← EReal.coe_add]
    have hl0 : ∀ x, 0 < p x / (∑ x, p x) * d + c := fun x =>
      add_pos_of_nonneg_of_pos (mul_nonneg (div_nonneg (hp x) hS.le) hd.le) hc
    unfold score
    simp only [hl]
    rw [coe_sum]
    exact ⟨_, div_coe _ _ (Finset.sum_pos (fun x _ => hl0 x) ⟨0, Finset.mem_univ _⟩).ne'⟩

theorem score_ne_bot (z : Vals) (e : Fin 16) : score z e ≠ ⊥ := by
  obtain ⟨r, h⟩ := score_real z e
  rw [h]; exact EReal.coe_ne_bot r

/-- The greatest score of a row is a real number. -/
theorem top_score_real (z : Vals) : ∃ r : ℝ, top (score z) = (r : EReal) := by
  obtain ⟨x, h⟩ := exists_top (score z)
  obtain ⟨r, hr⟩ := score_real z x
  exact ⟨r, h.symm.trans hr⟩

end Cert.Proof.Row
-- ==== Proof.Spec.lean ====
module

public import proofs.«01_k».proof.Proof.Row

@[expose] public section

/-!
The statistics of a batch, as functions of the sixteen score totals and the sixteen pick counts.
-/

noncomputable section

namespace Cert.Proof.Row

open Idealize.ShloMosaic

/-- One when choice `k` picks expert `e`. -/
def one (s : Vals) (e : Fin 16) (k : Fin 2) : EReal := if hit s e k = 1#1 then 1 else 0

/-- An expert's share of the picks. -/
def share (c : Vals) (e : Fin 16) : EReal := Ideal.div (c e) ((∑ x, c x) + Ideal.ofBits .f32 0x2EDBE6FF#32)

/-- An expert's mean score. -/
def mean (t : Vals) (e : Fin 16) : EReal := Ideal.div (t e) (Ideal.ofBits .f32 0x46800000#32)

/-- The mean of the mean scores. -/
def grand (t : Vals) : EReal := Ideal.div (∑ x, mean t x) (Ideal.ofBits .f32 0x41800000#32)

/-- The load loss. -/
def loadLoss (c t : Vals) : EReal :=
  min (Ideal.ofBits .f32 0x41200000#32) (max 0 ((∑ x, mean t x * share c x) * Ideal.ofBits .f32 0x41800000#32))

/-- The importance loss. -/
def importance (t : Vals) : EReal :=
  min 1 (max 0 (Ideal.div (Ideal.div (∑ x, (mean t x - grand t) * (mean t x - grand t)) (Ideal.ofBits .f32 0x41800000#32))
    (grand t * grand t + Ideal.ofBits .f32 0x2EDBE6FF#32)))

/-- The loss of the squared log sums. -/
def zLoss (q : EReal) : EReal := min (Ideal.ofBits .f32 0x42C80000#32) (max 0 (Ideal.div q (Ideal.ofBits .f32 0x46800000#32)))

/-- The entropy loss. -/
def entLoss (q : EReal) : EReal :=
  min (Ideal.ofBits .f32 0x40A00000#32) (max 0 ((1 - Ideal.div (Ideal.div q (Ideal.ofBits .f32 0x46800000#32))
    (Ideal.log (Ideal.ofBits .f32 0x41800000#32))) * Ideal.ofBits .f32 0x40A00000#32))

/-- The entropy of the shares. -/
def spread (u : Vals) : EReal := -∑ x, u x * Ideal.log (u x + Ideal.ofBits .f32 0x2EDBE6FF#32)

end Cert.Proof.Row
-- ==== Proof.KBlock.lean ====
module

public import proofs.«01_k».proof.Proof.Gen.KernelIdeal.Frame
public import proofs.«01_k».proof.Proof.Spec
public import Idealize.ShloMosaic.Lib.Pipeline.ValueKit

@[expose] public section

set_option maxRecDepth 16384

/-!
One sub-block of 512 rows: its scores, its picks, its two output pieces and its four partial sums, each as a function of
the weights, the rows and the noise the sub-block reads.
-/

noncomputable section
namespace Cert.KernelIdeal.Gen
open Idealize.ShloMosaic Idealize.ShloMosaic.TcCoe Idealize.SL.Sem
open Idealize.ShloMosaic.Pipeline (Dat)
open Cert.Proof

/-- The logits of a sub-block's row. -/
def logits (w : Vec Ideal S2048x16 .f32) (x : Vec Ideal S512x2048 .f32) (n : Vec Ideal S512x16 .f32) (r : Fin 512) : Row.Vals :=
  fun e => (∑ k, (x (ix2 r k) * w (ix2 k e) : EReal)) + n (ix2 r e)

/-- The scores of a sub-block's row. -/
def rowOf (w : Vec Ideal S2048x16 .f32) (x : Vec Ideal S512x2048 .f32) (n : Vec Ideal S512x16 .f32) (r : Fin 512) : Row.Vals :=
  Row.score (logits w x n r)

/-- The number of each expert lane. -/
abbrev lanes : IVec S512x16 32 := iota Kind.tc S512x16 32 [1] iota_S512x16_d1_w32

section
variable (w : Vec Ideal S2048x16 .f32) (x : Vec Ideal S512x2048 .f32) (n : Vec Ideal S512x16 .f32)

/-- The first picks of a sub-block. -/
def first : IVec S512x1 32 := k0_pay23 lanes (k0_pay21 w x n) k0_pay22
/-- The second picks of a sub-block. -/
def second : IVec S512x1 32 := k0_pay26 (k0_pay19 w x n) lanes (k0_pay21 w x n) k0_pay22
/-- The weights of the first picks. -/
def firstW : FVec Ideal S512x1 .f32 := k0_pay28 (k0_pay19 w x n) lanes (k0_pay20 w x n) (k0_pay21 w x n) k0_pay22
/-- The weights of the second picks. -/
def secondW : FVec Ideal S512x1 .f32 := k0_pay29 (k0_pay19 w x n) lanes (k0_pay20 w x n) (k0_pay21 w x n) k0_pay22
/-- The dispatch piece of a sub-block. -/
def dispBlk : IVec S512x32 32 := k0_pay39 (k0_pay33 (first w x n) (second w x n) k0_pay30 k0_pay31 0#32)
/-- The combine piece of a sub-block. -/
def combBlk : FVec Ideal S512x32 .f32 :=
  k0_pay34 (first w x n) (second w x n) (firstW w x n) (secondW w x n) k0_pay30 k0_pay31 0#32
/-- The sums of a sub-block's scores. -/
def sumBlk : FVec Ideal S1x16 .f32 := k0_pay35 (k0_pay19 w x n)
/-- The pick counts of a sub-block. -/
def useBlk : FVec Ideal S1x16 .f32 := k0_pay36 lanes (first w x n) (second w x n)
/-- The entropy sum of a sub-block. -/
def entBlk : FVec Ideal S1x1 .f32 := k0_pay37 (k0_pay19 w x n)
/-- The sum of squared log sums of a sub-block. -/
def sqBlk : FVec Ideal S1x1 .f32 := k0_pay38 (k0_pay19 w x n)

theorem scores_at (r : Fin 512) (e : Fin 16) : k0_pay19 w x n (ix2 r e) = rowOf w x n r e := by
  pointwise [k0_pay19, k0_pay14]
  rfl

theorem tops_at (r : Fin 512) : k0_pay20 w x n (ix2 r 0) = Row.top (rowOf w x n r) := by
  pointwise [k0_pay20]
  simp only [scores_at]
  rfl

theorem isTop_at (r : Fin 512) (e : Fin 16) :
    k0_pay21 w x n (ix2 r e) = BitVec.ofBool (decide (rowOf w x n r e = Row.top (rowOf w x n r))) := by
  pointwise [k0_pay21]
  simp only [scores_at, tops_at]

/-- Choosing by the word of a test. -/
theorem select_test {α : Type} (p : Prop) [Decidable p] (a b : α) : Scalar.select (BitVec.ofBool (decide p)) a b = if p then a else b := by
  by_cases h : p <;> simp [Scalar.select, h]

theorem first_at (r : Fin 512) : first w x n (ix2 r 0) = Row.pick (rowOf w x n r) 0 := by
  unfold first
  pointwise [k0_pay23, k0_pay22]
  simp only [isTop_at, select_test]
  rfl

theorem rest_at (r : Fin 512) (e : Fin 16) :
    k0_pay24 (k0_pay19 w x n) lanes (k0_pay21 w x n) k0_pay22 (ix2 r e) = Row.rest (rowOf w x n r) e := by
  have h := first_at w x n r
  unfold first at h
  pointwise [k0_pay24]
  rw [h, scores_at]
  rfl

theorem restTop_at (r : Fin 512) :
    k0_pay25 (k0_pay19 w x n) lanes (k0_pay21 w x n) k0_pay22 (ix2 r 0) = Row.best (rowOf w x n r) 1 := by
  pointwise [k0_pay25]
  simp only [rest_at]
  rfl

theorem second_at (r : Fin 512) : second w x n (ix2 r 0) = Row.pick (rowOf w x n r) 1 := by
  unfold second
  pointwise [k0_pay26]
  simp only [rest_at, restTop_at]
  rfl

theorem firstW_at (r : Fin 512) : firstW w x n (ix2 r 0) = Row.weight (rowOf w x n r) 0 := by
  unfold firstW
  pointwise [k0_pay28, k0_pay27]
  simp only [tops_at, restTop_at]
  rfl

theorem secondW_at (r : Fin 512) : secondW w x n (ix2 r 0) = Row.weight (rowOf w x n r) 1 := by
  unfold secondW
  pointwise [k0_pay29, k0_pay27]
  simp only [tops_at, restTop_at]
  rfl

/-- The expert of a lane. -/
theorem laneExpert (r : Fin 512) (e : Fin 16) (k : Fin 2) :
    k0_pay30 (ix2 r (⟨2 * e.val + k.val, by omega⟩ : Fin 32)) = BitVec.ofNat 32 e.val := by
  pointwise [k0_pay30]
  fin_cases e <;> fin_cases k <;> rfl

/-- The choice of a lane. -/
theorem laneChoice (r : Fin 512) (e : Fin 16) (k : Fin 2) :
    k0_pay31 (ix2 r (⟨2 * e.val + k.val, by omega⟩ : Fin 32)) = BitVec.ofNat 32 k.val := by
  pointwise [k0_pay31]
  rw [laneExpert]
  fin_cases e <;> fin_cases k <;> rfl

theorem lanePick (r : Fin 512) (e : Fin 16) (k : Fin 2) :
    k0_pay33 (first w x n) (second w x n) k0_pay30 k0_pay31 0#32 (ix2 r (⟨2 * e.val + k.val, by omega⟩ : Fin 32))
      = Row.hit (rowOf w x n r) e k := by
  pointwise [k0_pay33, k0_pay32]
  simp only [laneExpert, laneChoice, first_at, second_at]
  fin_cases k <;> rfl

theorem dispBlk_at (r : Fin 512) (e : Fin 16) (k : Fin 2) :
    dispBlk w x n (ix2 r (⟨2 * e.val + k.val, by omega⟩ : Fin 32)) = BitVec.setWidth 32 (Row.hit (rowOf w x n r) e k) := by
  unfold dispBlk
  pointwise [k0_pay39]
  rw [lanePick]

theorem combBlk_at (r : Fin 512) (e : Fin 16) (k : Fin 2) :
    combBlk w x n (ix2 r (⟨2 * e.val + k.val, by omega⟩ : Fin 32)) = Row.comb (rowOf w x n r) e k := by
  unfold combBlk
  pointwise [k0_pay34, k0_pay32]
  simp only [lanePick, laneChoice, firstW_at, secondW_at]
  fin_cases k <;> rfl

theorem sumBlk_at (e : Fin 16) : sumBlk w x n (ix2 0 e) = ∑ r, rowOf w x n r e := by
  unfold sumBlk
  pointwise [k0_pay35]
  simp only [scores_at]

/-- The word of a test, as a number. -/
theorem word_one (b : BitVec 1) : (FloatOps.sitofp (F := Ideal) .f32 (BitVec.setWidth 32 b) : EReal) = if b = 1#1 then 1 else 0 := by
  have h : b = 0#1 ∨ b = 1#1 := by revert b; decide
  rcases h with rfl | rfl <;> simp [FloatOps.sitofp]

theorem useBlk_at (e : Fin 16) : useBlk w x n (ix2 0 e) = ∑ r, ∑ k, Row.one (rowOf w x n r) e k := by
  unfold useBlk
  pointwise [k0_pay36]
  simp only [first_at, second_at, Fin.sum_univ_two]
  exact Finset.sum_congr rfl fun r _ => congrArg₂ (· + ·) (word_one _) (word_one _)

theorem entBlk_at : entBlk w x n (ix2 0 0) = ∑ r, -Row.plogp (rowOf w x n r) := by
  unfold entBlk
  pointwise [k0_pay37]
  simp only [scores_at, zero_sub]
  rfl

theorem sqBlk_at : sqBlk w x n (ix2 0 0) = ∑ r, Row.lse (rowOf w x n r) * Row.lse (rowOf w x n r) := by
  unfold sqBlk
  pointwise [k0_pay38]
  simp only [scores_at]
  rfl

end
end Cert.KernelIdeal.Gen
-- ==== Proof.KStep.lean ====
module

public import proofs.«01_k».proof.Proof.KBlock
public import Idealize.ShloMosaic.Lib.Pipeline.ReadBack

@[expose] public section

set_option maxRecDepth 16384
set_option pp.maxSteps 300
set_option maxHeartbeats 1000000

/-!
One grid point: its four sub-blocks, the pieces it stores and what it adds to the four running sums.
-/

noncomputable section
namespace Cert.KernelIdeal.Gen
open Idealize.ShloMosaic Idealize.ShloMosaic.TcCoe Idealize.SL.Sem
open Idealize.ShloMosaic.Pipeline (Dat)
open Cert.Proof

section
variable (w : Vec Ideal S2048x16 .f32) (x : Fin 4 → Vec Ideal S512x2048 .f32) (n : Fin 4 → Vec Ideal S512x16 .f32)

/-- The running score sums after a grid point. -/
def step0 (old : FVec Ideal S1x16 .f32) : FVec Ideal S1x16 .f32 :=
  k0_pay109 (k0_pay108 (k0_pay87 (k0_pay63 (k0_pay40 k0_pay15 (sumBlk w (x 0) (n 0))) (k0_pay58 (k0_pay19 w (x 1) (n 1))))
    (k0_pay82 (k0_pay19 w (x 2) (n 2)))) (k0_pay19 w (x 3) (n 3))) old
/-- The running pick counts after a grid point. -/
def step1 (old : FVec Ideal S1x16 .f32) : FVec Ideal S1x16 .f32 :=
  k0_pay110 (k0_pay88 (k0_pay64 (k0_pay41 k0_pay16 (useBlk w (x 0) (n 0)))
    (k0_pay59 lanes (first w (x 1) (n 1)) (second w (x 1) (n 1)))) (k0_pay83 lanes (first w (x 2) (n 2)) (second w (x 2) (n 2))))
    (k0_pay104 lanes (first w (x 3) (n 3)) (second w (x 3) (n 3))) old
/-- The running entropy sum after a grid point. -/
def step2 (old : FVec Ideal S1x1 .f32) : FVec Ideal S1x1 .f32 :=
  k0_pay111 (k0_pay89 (k0_pay65 (k0_pay42 k0_pay17 (entBlk w (x 0) (n 0))) (k0_pay60 (k0_pay19 w (x 1) (n 1))))
    (k0_pay84 (k0_pay19 w (x 2) (n 2)))) (k0_pay105 (k0_pay19 w (x 3) (n 3))) old
/-- The running sum of squared log sums after a grid point. -/
def step3 (old : FVec Ideal S1x1 .f32) : FVec Ideal S1x1 .f32 :=
  k0_pay112 (k0_pay90 (k0_pay66 (k0_pay43 k0_pay18 (sqBlk w (x 0) (n 0))) (k0_pay61 (k0_pay19 w (x 1) (n 1))))
    (k0_pay85 (k0_pay19 w (x 2) (n 2)))) (k0_pay106 (k0_pay19 w (x 3) (n 3))) old

theorem step0_at (old : FVec Ideal S1x16 .f32) (e : Fin 16) :
    step0 w x n old (ix2 0 e) = (old (ix2 0 e) : EReal) + ∑ j, ∑ r, rowOf w (x j) (n j) r e := by
  unfold step0
  pointwise [k0_pay109, k0_pay108, k0_pay87, k0_pay63, k0_pay40, k0_pay15, k0_pay58, k0_pay82]
  simp only [sumBlk_at, scores_at, Fin.sum_univ_four, zero_add]

theorem step1_at (old : FVec Ideal S1x16 .f32) (e : Fin 16) :
    step1 w x n old (ix2 0 e) = (old (ix2 0 e) : EReal) + ∑ j, ∑ r, ∑ k, Row.one (rowOf w (x j) (n j) r) e k := by
  unfold step1
  have h (j : Fin 4) : (∑ r, ∑ k, Row.one (rowOf w (x j) (n j) r) e k) = ∑ r, ((FloatOps.sitofp (F := Ideal) .f32 (BitVec.setWidth 32 (IntOp.cmpi .eq (BitVec.ofNat 32 e.val) (first w (x j) (n j) (ix2 r 0)))) : EReal) + FloatOps.sitofp (F := Ideal) .f32 (BitVec.setWidth 32 (IntOp.cmpi .eq (BitVec.ofNat 32 e.val) (second w (x j) (n j) (ix2 r 0))))) := by
    simp only [first_at, second_at, Fin.sum_univ_two]
    exact Finset.sum_congr rfl fun r _ => (congrArg₂ (· + ·) (word_one _) (word_one _)).symm
  pointwise [k0_pay110, k0_pay88, k0_pay64, k0_pay41, k0_pay16, k0_pay59, k0_pay83, k0_pay104]
  simp only [useBlk_at, Fin.sum_univ_four, zero_add, h 1, h 2, h 3]

theorem step2_at (old : FVec Ideal S1x1 .f32) :
    step2 w x n old (ix2 0 0) = (old (ix2 0 0) : EReal) + ∑ j, ∑ r, -Row.plogp (rowOf w (x j) (n j) r) := by
  unfold step2
  pointwise [k0_pay111, k0_pay89, k0_pay65, k0_pay42, k0_pay17, k0_pay60, k0_pay84, k0_pay105]
  simp only [entBlk_at, scores_at, Fin.sum_univ_four, zero_add, zero_sub]
  rfl

theorem step3_at (old : FVec Ideal S1x1 .f32) :
    step3 w x n old (ix2 0 0) = (old (ix2 0 0) : EReal) + ∑ j, ∑ r, Row.lse (rowOf w (x j) (n j) r) * Row.lse (rowOf w (x j) (n j) r) := by
  unfold step3
  pointwise [k0_pay112, k0_pay90, k0_pay66, k0_pay43, k0_pay18, k0_pay61, k0_pay85, k0_pay106]
  simp only [sqBlk_at, scores_at, Fin.sum_univ_four, zero_add]
  rfl

/-- The dispatch block of a grid point. -/
def dispOut : Vec Ideal S2048x32 .i32 :=
  View.canon [⟨Rect.unit ![1536,0] ![512,32] inb_S2048x32_S512x32_1536_0, dispBlk w (x 3) (n 3)⟩,
    ⟨Rect.unit ![1024,0] ![512,32] inb_S2048x32_S512x32_1024_0, dispBlk w (x 2) (n 2)⟩,
    ⟨Rect.unit ![512,0] ![512,32] inb_S2048x32_S512x32_512_0, dispBlk w (x 1) (n 1)⟩,
    ⟨Rect.unit ![0,0] ![512,32] inb_S2048x32_S512x32_0_0, dispBlk w (x 0) (n 0)⟩]
/-- The combine block of a grid point. -/
def combOut : Vec Ideal S2048x32 .f32 :=
  View.canon [⟨Rect.unit ![1536,0] ![512,32] inb_S2048x32_S512x32_1536_0, combBlk w (x 3) (n 3)⟩,
    ⟨Rect.unit ![1024,0] ![512,32] inb_S2048x32_S512x32_1024_0, combBlk w (x 2) (n 2)⟩,
    ⟨Rect.unit ![512,0] ![512,32] inb_S2048x32_S512x32_512_0, combBlk w (x 1) (n 1)⟩,
    ⟨Rect.unit ![0,0] ![512,32] inb_S2048x32_S512x32_0_0, combBlk w (x 0) (n 0)⟩]
end

section
variable (w : Vec Ideal S2048x16 .f32) (x0 x1 x2 x3 : Vec Ideal S512x2048 .f32) (n0 n1 n2 n3 : Vec Ideal S512x16 .f32)

/-- The four running sums, as the body's values give them. -/
theorem four_eq (a b : FVec Ideal S1x16 .f32) (d e : FVec Ideal S1x1 .f32) :
    (k0_pay109 (k0_pay108 (k0_pay87 (k0_pay63 (k0_pay40 k0_pay15 (k0_pay35 (k0_pay19 w x0 n0))) (k0_pay58 (k0_pay44 (k0_pay14 w) x1 n1))) (k0_pay82 (k0_pay67 (k0_pay14 w) x2 n2))) (k0_pay91 (k0_pay14 w) x3 n3)) a,
     k0_pay110 (k0_pay88 (k0_pay64 (k0_pay41 k0_pay16 (k0_pay36 lanes (k0_pay23 lanes (k0_pay21 w x0 n0) k0_pay22) (k0_pay26 (k0_pay19 w x0 n0) lanes (k0_pay21 w x0 n0) k0_pay22))) (k0_pay59 lanes (k0_pay46 (k0_pay14 w) x1 n1) (k0_pay49 (k0_pay44 (k0_pay14 w) x1 n1) lanes (k0_pay46 (k0_pay14 w) x1 n1)))) (k0_pay83 lanes (k0_pay69 (k0_pay14 w) x2 n2) (k0_pay74 (k0_pay67 (k0_pay14 w) x2 n2) lanes (k0_pay70 (k0_pay14 w) x2 n2) k0_pay71))) (k0_pay104 lanes (k0_pay93 (k0_pay14 w) x3 n3) (k0_pay96 lanes (k0_pay94 (k0_pay14 w) x3 n3) (k0_pay95 (k0_pay14 w) x3 n3))) b,
     k0_pay111 (k0_pay89 (k0_pay65 (k0_pay42 k0_pay17 (k0_pay37 (k0_pay19 w x0 n0))) (k0_pay60 (k0_pay44 (k0_pay14 w) x1 n1))) (k0_pay84 (k0_pay67 (k0_pay14 w) x2 n2))) (k0_pay105 (k0_pay91 (k0_pay14 w) x3 n3)) d,
     k0_pay112 (k0_pay90 (k0_pay66 (k0_pay43 k0_pay18 (k0_pay38 (k0_pay19 w x0 n0))) (k0_pay61 (k0_pay44 (k0_pay14 w) x1 n1))) (k0_pay85 (k0_pay67 (k0_pay14 w) x2 n2))) (k0_pay106 (k0_pay91 (k0_pay14 w) x3 n3)) e)
    = (step0 w ![x0, x1, x2, x3] ![n0, n1, n2, n3] a, step1 w ![x0, x1, x2, x3] ![n0, n1, n2, n3] b,
       step2 w ![x0, x1, x2, x3] ![n0, n1, n2, n3] d, step3 w ![x0, x1, x2, x3] ![n0, n1, n2, n3] e) := rfl

/-- The dispatch block, as the body's values give it. -/
theorem disp_eq : (View.canon [⟨Rect.unit ![1536,0] ![512,32] inb_S2048x32_S512x32_1536_0, k0_pay107 (k0_pay100 lanes (k0_pay93 (k0_pay14 w) x3 n3) (k0_pay94 (k0_pay14 w) x3 n3) (k0_pay95 (k0_pay14 w) x3 n3))⟩,
      ⟨Rect.unit ![1024,0] ![512,32] inb_S2048x32_S512x32_1024_0, k0_pay86 (k0_pay80 (k0_pay67 (k0_pay14 w) x2 n2) lanes (k0_pay69 (k0_pay14 w) x2 n2) (k0_pay70 (k0_pay14 w) x2 n2) k0_pay71)⟩,
      ⟨Rect.unit ![512,0] ![512,32] inb_S2048x32_S512x32_512_0, k0_pay62 (k0_pay49 (k0_pay44 (k0_pay14 w) x1 n1) lanes (k0_pay46 (k0_pay14 w) x1 n1)) k0_pay53 k0_pay54 (k0_pay55 (k0_pay46 (k0_pay14 w) x1 n1))⟩,
      ⟨Rect.unit ![0,0] ![512,32] inb_S2048x32_S512x32_0_0, k0_pay39 (k0_pay33 (k0_pay23 lanes (k0_pay21 w x0 n0) k0_pay22) (k0_pay26 (k0_pay19 w x0 n0) lanes (k0_pay21 w x0 n0) k0_pay22) k0_pay30 k0_pay31 0#32)⟩] : Vec Ideal S2048x32 .i32)
    = dispOut w ![x0, x1, x2, x3] ![n0, n1, n2, n3] := by
  rw [dispOut]
  rfl

/-- The combine block, as the body's values give it. -/
theorem comb_eq : (View.canon [⟨Rect.unit ![1536,0] ![512,32] inb_S2048x32_S512x32_1536_0, k0_pay103 k0_pay99 (k0_pay100 lanes (k0_pay93 (k0_pay14 w) x3 n3) (k0_pay94 (k0_pay14 w) x3 n3) (k0_pay95 (k0_pay14 w) x3 n3)) (k0_pay101 (k0_pay92 (k0_pay14 w) x3 n3) (k0_pay95 (k0_pay14 w) x3 n3)) (k0_pay102 (k0_pay92 (k0_pay14 w) x3 n3) (k0_pay95 (k0_pay14 w) x3 n3))⟩,
      ⟨Rect.unit ![1024,0] ![512,32] inb_S2048x32_S512x32_1024_0, k0_pay81 (k0_pay76 (k0_pay67 (k0_pay14 w) x2 n2) (k0_pay68 (k0_pay14 w) x2 n2) (k0_pay70 (k0_pay14 w) x2 n2) k0_pay71) (k0_pay77 (k0_pay67 (k0_pay14 w) x2 n2) (k0_pay68 (k0_pay14 w) x2 n2) (k0_pay70 (k0_pay14 w) x2 n2) k0_pay71) k0_pay79 (k0_pay80 (k0_pay67 (k0_pay14 w) x2 n2) lanes (k0_pay69 (k0_pay14 w) x2 n2) (k0_pay70 (k0_pay14 w) x2 n2) k0_pay71)⟩,
      ⟨Rect.unit ![512,0] ![512,32] inb_S2048x32_S512x32_512_0, k0_pay57 (k0_pay49 (k0_pay44 (k0_pay14 w) x1 n1) lanes (k0_pay46 (k0_pay14 w) x1 n1)) (k0_pay51 (k0_pay44 (k0_pay14 w) x1 n1) lanes (k0_pay45 (k0_pay14 w) x1 n1) (k0_pay46 (k0_pay14 w) x1 n1)) (k0_pay52 (k0_pay44 (k0_pay14 w) x1 n1) lanes (k0_pay45 (k0_pay14 w) x1 n1) (k0_pay46 (k0_pay14 w) x1 n1)) k0_pay53 k0_pay54 (k0_pay55 (k0_pay46 (k0_pay14 w) x1 n1))⟩,
      ⟨Rect.unit ![0,0] ![512,32] inb_S2048x32_S512x32_0_0, k0_pay34 (k0_pay23 lanes (k0_pay21 w x0 n0) k0_pay22) (k0_pay26 (k0_pay19 w x0 n0) lanes (k0_pay21 w x0 n0) k0_pay22) (k0_pay28 (k0_pay19 w x0 n0) lanes (k0_pay20 w x0 n0) (k0_pay21 w x0 n0) k0_pay22) (k0_pay29 (k0_pay19 w x0 n0) lanes (k0_pay20 w x0 n0) (k0_pay21 w x0 n0) k0_pay22) k0_pay30 k0_pay31 0#32⟩] : Vec Ideal S2048x32 .f32)
    = combOut w ![x0, x1, x2, x3] ![n0, n1, n2, n3] := by
  rw [combOut]
  rfl
end

variable (m : (ℓ : Loc nD τ sig) → Buf (Elt Ideal) ℓ) (c : Dev nD) (t : Fin cfg0.N)

/-- The rows of a grid point's sub-blocks. -/
def rows : Fin 4 → Vec Ideal S512x2048 .f32 := ![iblk m c 0 t, iblk m c 1 t, iblk m c 2 t, iblk m c 3 t]
/-- The noise of a grid point's sub-blocks. -/
def noises : Fin 4 → Vec Ideal S512x16 .f32 :=
  ![View.ld (iblk m c 5 t) (Rect.unit ![0, 0] ![512, 16] inb_S2048x16_S512x16_0_0),
    View.ld (iblk m c 5 t) (Rect.unit ![512, 0] ![512, 16] inb_S2048x16_S512x16_512_0),
    View.ld (iblk m c 5 t) (Rect.unit ![1024, 0] ![512, 16] inb_S2048x16_S512x16_1024_0),
    View.ld (iblk m c 5 t) (Rect.unit ![1536, 0] ![512, 16] inb_S2048x16_S512x16_1536_0)]

theorem start_step (h0 : t.val % 8 = 0) : (outsAt0 m c t.val t.isLt).2.2.2.2.2.2.2.2
    = (step0 (iblk m c 4 t) (rows m c t) (noises m c t) k0_pay10, step1 (iblk m c 4 t) (rows m c t) (noises m c t) k0_pay11,
       step2 (iblk m c 4 t) (rows m c t) (noises m c t) k0_pay12, step3 (iblk m c 4 t) (rows m c t) (noises m c t) k0_pay13) := by
  rw [outsAt0_A m c t h0 (by omega)]; frame_out
  exact four_eq ..

theorem next_step (h0 : ¬t.val % 8 = 0) :
    letI old := (outsAt0 m c (t.val - 1) (Nat.lt_of_le_of_lt (Nat.sub_le _ _) t.isLt)).2.2.2.2.2.2.2.2
    (outsAt0 m c t.val t.isLt).2.2.2.2.2.2.2.2
    = (step0 (iblk m c 4 t) (rows m c t) (noises m c t) old.1, step1 (iblk m c 4 t) (rows m c t) (noises m c t) old.2.1,
       step2 (iblk m c 4 t) (rows m c t) (noises m c t) old.2.2.1, step3 (iblk m c 4 t) (rows m c t) (noises m c t) old.2.2.2) := by
  by_cases h1 : t.val % 8 = 7
  · rw [outsAt0_C m c t h0 h1]; frame_out
    simp only [read_unread_whole]
    exact four_eq ..
  · rw [outsAt0_B m c t h0 h1]; frame_out
    simp only [read_unread_whole]
    exact four_eq ..

theorem out6 : (outsAt0 m c t.val t.isLt).1 = dispOut (iblk m c 4 t) (rows m c t) (noises m c t) := by
  by_cases h0 : t.val % 8 = 0
  · rw [outsAt0_A m c t h0 (by omega)]; frame_out
    exact disp_eq ..
  by_cases h1 : t.val % 8 = 7
  · rw [outsAt0_C m c t h0 h1]; frame_out
    exact disp_eq ..
  · rw [outsAt0_B m c t h0 h1]; frame_out
    exact disp_eq ..

theorem out7 : (outsAt0 m c t.val t.isLt).2.1 = combOut (iblk m c 4 t) (rows m c t) (noises m c t) := by
  by_cases h0 : t.val % 8 = 0
  · rw [outsAt0_A m c t h0 (by omega)]; frame_out
    exact comb_eq ..
  by_cases h1 : t.val % 8 = 7
  · rw [outsAt0_C m c t h0 h1]; frame_out
    exact comb_eq ..
  · rw [outsAt0_B m c t h0 h1]; frame_out
    exact comb_eq ..

/-- The results of the last grid point, from its running sums. -/
theorem last_outs (h1 : t.val % 8 = 7) :
    letI s := (outsAt0 m c t.val t.isLt).2.2.2.2.2.2.2.2
    (outsAt0 m c t.val t.isLt).2.2.1 = k0_pay2 s.2.1 ∧ (outsAt0 m c t.val t.isLt).2.2.2.1 = k0_pay4 s.2.1 s.1
    ∧ (outsAt0 m c t.val t.isLt).2.2.2.2.1 = k0_pay6 (k0_pay5 s.1) ∧ (outsAt0 m c t.val t.isLt).2.2.2.2.2.1 = k0_pay8 s.2.2.2
    ∧ (outsAt0 m c t.val t.isLt).2.2.2.2.2.2.1 = k0_pay7 s.2.2.1 ∧ (outsAt0 m c t.val t.isLt).2.2.2.2.2.2.2.1 = k0_pay1 (k0_pay9 (k0_pay2 s.2.1)) := by
  rw [outsAt0_C m c t (by omega) h1]; frame_out
  refine ⟨?_, ?_, ?_, ?_, ?_, ?_⟩ <;> trivial
end Cert.KernelIdeal.Gen
-- ==== Proof.KVals.lean ====
module

public import proofs.«01_k».proof.Proof.KStep

@[expose] public section

set_option maxRecDepth 16384
set_option pp.maxSteps 300

/-!
The kernel's blocks as rows of its whole arrays, and its running sums as sums over all rows.
-/

noncomputable section
namespace Cert.KernelIdeal.Gen
open Idealize.ShloMosaic Idealize.ShloMosaic.TcCoe Idealize.SL.Sem
open Idealize.ShloMosaic.Pipeline (Dat)
open Cert.Proof
variable (m : (ℓ : Loc nD τ sig) → Buf (Elt Ideal) ℓ) (c : Dev nD)

/-- The block each window reads or writes at a grid point. -/
theorem idx : ∀ t : Fin cfg0.N, win0_0.index t = ![4 * t.val, 0] ∧ win0_1.index t = ![4 * t.val + 1, 0] ∧ win0_2.index t = ![4 * t.val + 2, 0]
    ∧ win0_3.index t = ![4 * t.val + 3, 0] ∧ win0_4.index t = ![0, 0] ∧ win0_5.index t = ![t.val, 0] ∧ win0_6.index t = ![t.val, 0] ∧ win0_7.index t = ![t.val, 0] :=
  (by decide +kernel : ∀ t : Fin grid0.N, _)

/-- A hidden row's element. -/
def hidden (R : Fin 16384) (k : Fin 2048) : EReal := V m c main_v0 (ix2 R k)
/-- A weight. -/
def wgt (k : Fin 2048) (e : Fin 16) : EReal := V m c main_v19 (ix2 k e)
/-- A row's noise. -/
def nse (R : Fin 16384) (e : Fin 16) : EReal := V m c main_v18 (ix2 R e)

/-- The scores of a row. -/
def scoreRow (R : Fin 16384) : Row.Vals :=
  Row.score fun e => (∑ k : Fin 2048, hidden m c R k * wgt m c k e) + nse m c R e

/-- A row's number, from its grid point, its sub-block and its place there. -/
def rowNo (t : Fin cfg0.N) (j : Fin 4) (r : Fin 512) : Fin 16384 :=
  ⟨2048 * t.val + 512 * j.val + r.val, by have := lt_of_lt_of_eq t.isLt N_0; omega⟩

/-- Four cases. -/
theorem four_cases (P : Fin 4 → Prop) (h0 : P 0) (h1 : P 1) (h2 : P 2) (h3 : P 3) (j : Fin 4) : P j := by
  fin_cases j <;> assumption

theorem win0_at (t : Fin cfg0.N) (r : Fin 512) (k : Fin 2048) (R : Fin 16384) (hR : R.val = 4 * 512 * t.val + 0 + r.val) :
    (show Vec Ideal S512x2048 .f32 from iblk m c 0 t) (ix2 r k) = hidden m c R k := by
  unfold iblk hidden; generalize V m c = W; blk_ext [idx t]

theorem win1_at (t : Fin cfg0.N) (r : Fin 512) (k : Fin 2048) (R : Fin 16384) (hR : R.val = 4 * 512 * t.val + 512 + r.val) :
    (show Vec Ideal S512x2048 .f32 from iblk m c 1 t) (ix2 r k) = hidden m c R k := by
  unfold iblk hidden; generalize V m c = W; blk_ext [idx t]

theorem win2_at (t : Fin cfg0.N) (r : Fin 512) (k : Fin 2048) (R : Fin 16384) (hR : R.val = 4 * 512 * t.val + 1024 + r.val) :
    (show Vec Ideal S512x2048 .f32 from iblk m c 2 t) (ix2 r k) = hidden m c R k := by
  unfold iblk hidden; generalize V m c = W; blk_ext [idx t]

theorem win3_at (t : Fin cfg0.N) (r : Fin 512) (k : Fin 2048) (R : Fin 16384) (hR : R.val = 4 * 512 * t.val + 1536 + r.val) :
    (show Vec Ideal S512x2048 .f32 from iblk m c 3 t) (ix2 r k) = hidden m c R k := by
  unfold iblk hidden; generalize V m c = W; blk_ext [idx t]

theorem rows_at (t : Fin cfg0.N) (j : Fin 4) (r : Fin 512) (k : Fin 2048) :
    rows m c t j (ix2 r k) = hidden m c (rowNo t j r) k := by
  unfold rows
  have h0 := win0_at m c t r k (rowNo t 0 r) (by show 2048 * t.val + 512 * 0 + r.val = _; omega)
  have h1 := win1_at m c t r k (rowNo t 1 r) (by show 2048 * t.val + 512 * 1 + r.val = _; omega)
  have h2 := win2_at m c t r k (rowNo t 2 r) (by show 2048 * t.val + 512 * 2 + r.val = _; omega)
  have h3 := win3_at m c t r k (rowNo t 3 r) (by show 2048 * t.val + 512 * 3 + r.val = _; omega)
  generalize iblk m c 0 t = x0 at h0 ⊢
  generalize iblk m c 1 t = x1 at h1 ⊢
  generalize iblk m c 2 t = x2 at h2 ⊢
  generalize iblk m c 3 t = x3 at h3 ⊢
  generalize hidden m c = H at h0 h1 h2 h3 ⊢
  exact four_cases (fun j => (![x0,x1,x2,x3] : Fin 4 → Vec Ideal S512x2048 .f32) j (ix2 r k) = H (rowNo t j r) k) h0 h1 h2 h3 j

theorem place4 (t : Fin cfg0.N) (k : Fin 2048) (e : Fin 16) : (win0_4.blk t).view.emb (ix2 k e) = ix2 k e := by
  funext a
  fin_cases a
  · apply Fin.ext; blk_simp [idx t]
  · apply Fin.ext; blk_simp [idx t]

theorem weights_at (t : Fin cfg0.N) (k : Fin 2048) (e : Fin 16) :
    (show Vec Ideal S2048x16 .f32 from iblk m c 4 t) (ix2 k e) = wgt m c k e := by
  unfold iblk wgt; generalize V m c = W
  blk_simp [idx t]
  exact congrArg (W main_v19) (place4 t k e)

theorem place5 (t : Fin cfg0.N) (r : Fin 2048) (e : Fin 16) (R : Fin 16384) (hR : R.val = 2048 * t.val + r.val) : (win0_5.blk t).view.emb (ix2 r e) = ix2 R e := by
  have h := (idx t).2.2.2.2.2.1
  have e0 : win0_5.index t 0 = t.val := congrFun h 0
  have e1 : win0_5.index t 1 = 0 := congrFun h 1
  funext a
  refine Fin.ext ?_
  match a with
  | ⟨0, _⟩ =>
    show win0_5.index t 0 * 2048 + 1 * r.val = R.val
    rw [e0, hR]; ring
  | ⟨1, _⟩ =>
    show win0_5.index t 1 * 16 + 1 * e.val = e.val
    rw [e1]; ring

theorem noise_at (t : Fin cfg0.N) (r : Fin 2048) (e : Fin 16) (R : Fin 16384) (hR : R.val = 2048 * t.val + r.val) :
    (show Vec Ideal S2048x16 .f32 from iblk m c 5 t) (ix2 r e) = nse m c R e := by
  unfold iblk nse; generalize V m c = W
  have h : ∀ x, (show Vec Ideal S2048x16 .f32 from View.read (Elt Ideal) ((cfg0.win 5).blk t).view x) (ix2 r e) = x (ix2 R e) := fun x => congrArg x (place5 t r e R hR)
  exact h _

/-- Reading 512 rows of a block from a row on. -/
theorem part_at (x : Vec Ideal S2048x16 .f32) (o : ℕ) (inb) (r : Fin 512) (e : Fin 16) (ho : o + 512 ≤ 2048) :
    View.ld x (Rect.unit ![o, 0] ![512, 16] inb) (ix2 r e) = x (ix2 ⟨o + r.val, by omega⟩ e) := by
  refine congrArg x (funext fun a => Fin.ext ?_)
  fin_cases a
  · show o + 1 * r.val = o + r.val; omega
  · show 0 + 1 * e.val = e.val; omega

/-- Four runs of 512 rows of a block. -/
def runs (x : Vec Ideal S2048x16 .f32) : Fin 4 → Vec Ideal S512x16 .f32 :=
  ![View.ld x (Rect.unit ![0, 0] ![512, 16] inb_S2048x16_S512x16_0_0),
    View.ld x (Rect.unit ![512, 0] ![512, 16] inb_S2048x16_S512x16_512_0),
    View.ld x (Rect.unit ![1024, 0] ![512, 16] inb_S2048x16_S512x16_1024_0),
    View.ld x (Rect.unit ![1536, 0] ![512, 16] inb_S2048x16_S512x16_1536_0)]

theorem run0 (x : Vec Ideal S2048x16 .f32) : runs x 0 = View.ld x (Rect.unit ![0, 0] ![512, 16] inb_S2048x16_S512x16_0_0) := rfl
theorem run1 (x : Vec Ideal S2048x16 .f32) : runs x 1 = View.ld x (Rect.unit ![512, 0] ![512, 16] inb_S2048x16_S512x16_512_0) := rfl
theorem run2 (x : Vec Ideal S2048x16 .f32) : runs x 2 = View.ld x (Rect.unit ![1024, 0] ![512, 16] inb_S2048x16_S512x16_1024_0) := rfl
theorem run3 (x : Vec Ideal S2048x16 .f32) : runs x 3 = View.ld x (Rect.unit ![1536, 0] ![512, 16] inb_S2048x16_S512x16_1536_0) := rfl

theorem runs_at (x : Vec Ideal S2048x16 .f32) (H : Fin 16384 → EReal) (t : Fin cfg0.N) (e : Fin 16)
    (h : ∀ (r : Fin 2048) (R : Fin 16384), R.val = 2048 * t.val + r.val → x (ix2 r e) = H R) (j : Fin 4) (r : Fin 512) :
    runs x j (ix2 r e) = H (rowNo t j r) := by
  refine four_cases (fun j => runs x j (ix2 r e) = H (rowNo t j r)) ?_ ?_ ?_ ?_ j
  · rw [run0, part_at x 0 _ r e (by omega)]; exact h _ _ (by simp only [rowNo, Fin.val_zero]; omega)
  · rw [run1, part_at x 512 _ r e (by omega)]; exact h _ _ (by simp only [rowNo, Fin.val_one]; omega)
  · rw [run2, part_at x 1024 _ r e (by omega)]; exact h _ _ (by simp only [rowNo, Fin.val_two]; omega)
  · rw [run3, part_at x 1536 _ r e (by omega)]; exact h _ _ (by simp only [rowNo, show ((3 : Fin 4) : ℕ) = 3 from rfl]; omega)

theorem noises_runs (t : Fin cfg0.N) : noises m c t = runs (iblk m c 5 t) := rfl

theorem noises_at (t : Fin cfg0.N) (j : Fin 4) (r : Fin 512) (e : Fin 16) :
    noises m c t j (ix2 r e) = nse m c (rowNo t j r) e := by
  rw [noises_runs]
  exact runs_at _ (fun R => nse m c R e) t e (fun r R hR => noise_at m c t r e R hR) j r

theorem row_at (t : Fin cfg0.N) (j : Fin 4) (r : Fin 512) :
    rowOf (iblk m c 4 t) (rows m c t j) (noises m c t j) r = scoreRow m c (rowNo t j r) := by
  unfold rowOf scoreRow logits
  refine congrArg Row.score (funext fun e => ?_)
  refine congrArg₂ (fun a b : EReal => a + b) (Finset.sum_congr rfl fun k _ => ?_) (noises_at m c t j r e)
  exact congrArg₂ (fun a b : EReal => a * b) (rows_at m c t j r k) (weights_at m c t k e)

/-- A sum over grid points, sub-blocks and their rows is the sum over all rows. -/
theorem sum_rows (f : Fin 16384 → EReal) : ∑ t : Fin cfg0.N, ∑ j : Fin 4, ∑ r : Fin 512, f (rowNo t j r) = ∑ R, f R := by
  rw [Fin.sum_univ_tiles 8 2048 rfl f]
  refine Eq.trans (b := ∑ t : Fin 8, ∑ j : Fin 4, ∑ r : Fin 512, f (rowNo (show Fin cfg0.N from t) j r)) rfl (Finset.sum_congr rfl fun t _ => ?_)
  rw [Fin.sum_univ_tiles 4 512 rfl]
  refine Finset.sum_congr rfl fun j _ => Finset.sum_congr rfl fun r _ => congrArg f (Fin.ext ?_)
  show 2048 * t.val + 512 * j.val + r.val = t.val * 2048 + (j.val * 512 + r.val)
  omega

/-- The running sums a grid point leaves. -/
abbrev sums (n : ℕ) (h : n < cfg0.N) := (outsAt0 m c n h).2.2.2.2.2.2.2.2

theorem sums0 (t : Fin cfg0.N) (ht : t.val + 1 = cfg0.N) (e : Fin 16) : (sums m c t.val t.isLt).1 (ix2 0 e) = ∑ R, scoreRow m c R e := by
  refine (Pipeline.eq_sum_fin_of_reset_step_apply_last (fun n h (e : Fin 16) => (show EReal from (sums m c n h).1 (ix2 0 e))) 8 (fun _ => 0)
    (fun t e => ∑ j : Fin 4, ∑ r : Fin 512, scoreRow m c (rowNo t j r) e) (fun t h e => ?_) (fun t h e => ?_) (le_of_eq N_0) t ht e).trans ?_
  · show (sums m c t.val t.isLt).1 (ix2 0 e) = _
    unfold sums
    rw [start_step m c t h]
    refine (step0_at _ _ _ _ e).trans ?_
    simp only [row_at]
    refine congrArg (fun a : EReal => a + _) ?_
    pointwise [k0_pay10]
  · show (sums m c t.val t.isLt).1 (ix2 0 e) = _
    unfold sums
    rw [next_step m c t h]
    refine (step0_at _ _ _ _ e).trans ?_
    simp only [row_at]
  · rw [zero_add]; exact sum_rows fun R => scoreRow m c R e

theorem sums1 (t : Fin cfg0.N) (ht : t.val + 1 = cfg0.N) (e : Fin 16) :
    (sums m c t.val t.isLt).2.1 (ix2 0 e) = ∑ R, ∑ k, Row.one (scoreRow m c R) e k := by
  refine (Pipeline.eq_sum_fin_of_reset_step_apply_last (fun n h (e : Fin 16) => (show EReal from (sums m c n h).2.1 (ix2 0 e))) 8 (fun _ => 0)
    (fun t e => ∑ j : Fin 4, ∑ r : Fin 512, ∑ k, Row.one (scoreRow m c (rowNo t j r)) e k) (fun t h e => ?_) (fun t h e => ?_) (le_of_eq N_0) t ht e).trans ?_
  · show (sums m c t.val t.isLt).2.1 (ix2 0 e) = _
    unfold sums
    rw [start_step m c t h]
    refine (step1_at _ _ _ _ e).trans ?_
    simp only [row_at]
    refine congrArg (fun a : EReal => a + _) ?_
    pointwise [k0_pay11]
  · show (sums m c t.val t.isLt).2.1 (ix2 0 e) = _
    unfold sums
    rw [next_step m c t h]
    refine (step1_at _ _ _ _ e).trans ?_
    simp only [row_at]
  · rw [zero_add]; exact sum_rows fun R => ∑ k, Row.one (scoreRow m c R) e k

theorem sums2 (t : Fin cfg0.N) (ht : t.val + 1 = cfg0.N) :
    (sums m c t.val t.isLt).2.2.1 (ix2 0 0) = ∑ R, -Row.plogp (scoreRow m c R) := by
  refine (Pipeline.eq_sum_fin_of_reset_step_apply_last (fun n h (_ : Unit) => (show EReal from (sums m c n h).2.2.1 (ix2 0 0))) 8 (fun _ => 0)
    (fun t _ => ∑ j : Fin 4, ∑ r : Fin 512, -Row.plogp (scoreRow m c (rowNo t j r))) (fun t h _ => ?_) (fun t h _ => ?_) (le_of_eq N_0) t ht ()).trans ?_
  · show (sums m c t.val t.isLt).2.2.1 (ix2 0 0) = _
    unfold sums
    rw [start_step m c t h]
    refine (step2_at _ _ _ _).trans ?_
    simp only [row_at]
    refine congrArg (fun a : EReal => a + _) ?_
    pointwise [k0_pay12]
  · show (sums m c t.val t.isLt).2.2.1 (ix2 0 0) = _
    unfold sums
    rw [next_step m c t h]
    refine (step2_at _ _ _ _).trans ?_
    simp only [row_at]
  · rw [zero_add]; exact sum_rows fun R => -Row.plogp (scoreRow m c R)

theorem sums3 (t : Fin cfg0.N) (ht : t.val + 1 = cfg0.N) :
    (sums m c t.val t.isLt).2.2.2 (ix2 0 0) = ∑ R, Row.lse (scoreRow m c R) * Row.lse (scoreRow m c R) := by
  refine (Pipeline.eq_sum_fin_of_reset_step_apply_last (fun n h (_ : Unit) => (show EReal from (sums m c n h).2.2.2 (ix2 0 0))) 8 (fun _ => 0)
    (fun t _ => ∑ j : Fin 4, ∑ r : Fin 512, Row.lse (scoreRow m c (rowNo t j r)) * Row.lse (scoreRow m c (rowNo t j r))) (fun t h _ => ?_) (fun t h _ => ?_) (le_of_eq N_0) t ht ()).trans ?_
  · show (sums m c t.val t.isLt).2.2.2 (ix2 0 0) = _
    unfold sums
    rw [start_step m c t h]
    refine (step3_at _ _ _ _).trans ?_
    simp only [row_at]
    refine congrArg (fun a : EReal => a + _) ?_
    pointwise [k0_pay13]
  · show (sums m c t.val t.isLt).2.2.2 (ix2 0 0) = _
    unfold sums
    rw [next_step m c t h]
    refine (step3_at _ _ _ _).trans ?_
    simp only [row_at]
  · rw [zero_add]; exact sum_rows fun R => Row.lse (scoreRow m c R) * Row.lse (scoreRow m c R)

end Cert.KernelIdeal.Gen
-- ==== Proof.KOuts.lean ====
module

public import proofs.«01_k».proof.Proof.KVals

@[expose] public section

set_option maxRecDepth 16384
set_option pp.maxSteps 300

/-!
The arrays the kernel's pipeline leaves, in terms of the rows' scores.
-/

noncomputable section
namespace Cert.KernelIdeal.Gen
open Idealize.ShloMosaic Idealize.ShloMosaic.TcCoe Idealize.SL.Sem
open Idealize.ShloMosaic.Pipeline (Dat)
open Cert.Proof

/-- The final values, as functions of the running sums. -/
theorem pay2_at (u : FVec Ideal S1x16 .f32) (e : Fin 16) : k0_pay2 (F := Ideal) u (ix2 0 e) = Row.share (fun e => u (ix2 0 e)) e := by
  pointwise [k0_pay2]
  simp only [Fin.sum_univ_one, Finset.sum_const, Finset.card_univ, Fintype.card_fin, one_smul]; rfl
theorem pay4_at (u s : FVec Ideal S1x16 .f32) : k0_pay4 (F := Ideal) u s (ix2 0 0) = Row.loadLoss (fun e => u (ix2 0 e)) (fun e => s (ix2 0 e)) := by
  pointwise [k0_pay4, k0_pay3, k0_pay2]
  simp only [Fin.sum_univ_one, Finset.sum_const, Finset.card_univ, Fintype.card_fin, one_smul]; rfl
theorem pay6_at (s : FVec Ideal S1x16 .f32) : k0_pay6 (F := Ideal) (k0_pay5 s) (ix2 0 0) = Row.importance (fun e => s (ix2 0 e)) := by
  pointwise [k0_pay6, k0_pay5, k0_pay3]
  simp only [Fin.sum_univ_one, Finset.sum_const, Finset.card_univ, Fintype.card_fin, one_smul]; rfl
theorem pay8_at (s : FVec Ideal S1x1 .f32) : k0_pay8 (F := Ideal) s (ix2 0 0) = Row.zLoss (s (ix2 0 0)) := by
  pointwise [k0_pay8]
  try rfl
theorem pay7_at (s : FVec Ideal S1x1 .f32) : k0_pay7 (F := Ideal) s (ix2 0 0) = Row.entLoss (s (ix2 0 0)) := by
  pointwise [k0_pay7]
  try rfl
theorem pay19_at (u : FVec Ideal S1x16 .f32) : (k0_pay1 (k0_pay9 (k0_pay2 (F := Ideal) u)) : FVec Ideal S1x1 .f32) (ix2 0 0) = Row.spread (fun e => k0_pay2 (F := Ideal) u (ix2 0 e)) := by
  generalize k0_pay2 (F := Ideal) u = v
  pointwise [k0_pay9, k0_pay1]
  simp only [Fin.sum_univ_one, Finset.sum_const, Finset.card_univ, Fintype.card_fin, one_smul]
  exact zero_sub _

variable (m : (ℓ : Loc nD τ sig) → Buf (Elt Ideal) ℓ) (c : Dev nD)

/-- How often each expert is picked. -/
def picks (e : Fin 16) : EReal := ∑ R, ∑ k, Row.one (scoreRow m c R) e k
/-- The sum of each expert's scores. -/
def total (e : Fin 16) : EReal := ∑ R, scoreRow m c R e

theorem one_by_sixteen (j : S1x16.Idx) : j = ix2 0 (j 1) := by
  funext a
  match a with
  | ⟨0, _⟩ => exact Fin.ext (by have := (j 0).isLt; show (j 0).val = 0; change (j 0).val < 1 at this; omega)
  | ⟨1, _⟩ => rfl
theorem one_by_one (j : S1x1.Idx) : j = ix2 0 0 := by
  funext a
  match a with
  | ⟨0, _⟩ => exact Fin.ext (by have := (j 0).isLt; show (j 0).val = 0; change (j 0).val < 1 at this; omega)
  | ⟨1, _⟩ => exact Fin.ext (by have := (j 1).isLt; show (j 1).val = 0; change (j 1).val < 1 at this; omega)

theorem last_point : t0_7.val + 1 = cfg0.N := rfl

theorem sums0' : (fun e => (sums m c t0_7.val t0_7.isLt).1 (ix2 0 e)) = total m c := funext fun e => sums0 m c t0_7 last_point e
theorem sums1' : (fun e => (sums m c t0_7.val t0_7.isLt).2.1 (ix2 0 e)) = picks m c := funext fun e => sums1 m c t0_7 last_point e

theorem fin8 : (dats m 0 c).arrAt 8 (cfgs 0).N = (fun i : S1x16.Idx => Row.share (picks m c) (i 1) : FVec Ideal S1x16 .f32) := by
  refine (dats m 0 c).arrAt_eq_of_after_last 8 t0_7 (by decide +kernel) _ fun j => ?_
  blk_simp
  rw [after0_8, (last_outs m c t0_7 rfl).1, ← sums1' m c]
  exact (congrArg _ (one_by_sixteen j)).trans (pay2_at _ _)
theorem fin9 : (dats m 0 c).arrAt 9 (cfgs 0).N = (fun _ : S1x1.Idx => Row.loadLoss (picks m c) (total m c) : FVec Ideal S1x1 .f32) := by
  refine (dats m 0 c).arrAt_eq_of_after_last 9 t0_7 (by decide +kernel) _ fun j => ?_
  blk_simp
  rw [after0_9, (last_outs m c t0_7 rfl).2.1, ← sums1' m c, ← sums0' m c]
  exact (congrArg _ (one_by_one j)).trans (pay4_at _ _)
theorem fin10 : (dats m 0 c).arrAt 10 (cfgs 0).N = (fun _ : S1x1.Idx => Row.importance (total m c) : FVec Ideal S1x1 .f32) := by
  refine (dats m 0 c).arrAt_eq_of_after_last 10 t0_7 (by decide +kernel) _ fun j => ?_
  blk_simp
  rw [after0_10, (last_outs m c t0_7 rfl).2.2.1, ← sums0' m c]
  exact (congrArg _ (one_by_one j)).trans (pay6_at _)
theorem fin11 : (dats m 0 c).arrAt 11 (cfgs 0).N = (fun _ : S1x1.Idx => Row.zLoss (∑ R, Row.lse (scoreRow m c R) * Row.lse (scoreRow m c R)) : FVec Ideal S1x1 .f32) := by
  refine (dats m 0 c).arrAt_eq_of_after_last 11 t0_7 (by decide +kernel) _ fun j => ?_
  blk_simp
  rw [after0_11, (last_outs m c t0_7 rfl).2.2.2.1, ← sums3 m c t0_7 last_point]
  exact (congrArg _ (one_by_one j)).trans (pay8_at _)
theorem fin12 : (dats m 0 c).arrAt 12 (cfgs 0).N = (fun _ : S1x1.Idx => Row.entLoss (∑ R, -Row.plogp (scoreRow m c R)) : FVec Ideal S1x1 .f32) := by
  refine (dats m 0 c).arrAt_eq_of_after_last 12 t0_7 (by decide +kernel) _ fun j => ?_
  blk_simp
  rw [after0_12, (last_outs m c t0_7 rfl).2.2.2.2.1, ← sums2 m c t0_7 last_point]
  exact (congrArg _ (one_by_one j)).trans (pay7_at _)
theorem fin13 : (dats m 0 c).arrAt 13 (cfgs 0).N = (fun _ : S1x1.Idx => Row.spread (fun e => Row.share (picks m c) e) : FVec Ideal S1x1 .f32) := by
  refine (dats m 0 c).arrAt_eq_of_after_last 13 t0_7 (by decide +kernel) _ fun j => ?_
  blk_simp
  rw [after0_13, (last_outs m c t0_7 rfl).2.2.2.2.2, ← sums1' m c]
  refine (congrArg _ (one_by_one j)).trans ((pay19_at _).trans (congrArg Row.spread (funext fun e => pay2_at _ e)))

/-- The dispatch array: at a row and a lane, whether the lane's choice picks the lane's expert. -/
def dispArr : IVec S16384x32 32 := fun i => BitVec.setWidth 32 (Row.hit (scoreRow m c (i 0)) ⟨(i 1).val / 2, by have := (i 1).isLt; change (i 1).val < 32 at this; omega⟩ ⟨(i 1).val % 2, by omega⟩)
/-- The combine array: at a row and a lane, the weight of the lane's choice where it picks the lane's expert. -/
def combArr : FVec Ideal S16384x32 .f32 := fun i => Row.comb (scoreRow m c (i 0)) ⟨(i 1).val / 2, by have := (i 1).isLt; change (i 1).val < 32 at this; omega⟩ ⟨(i 1).val % 2, by omega⟩

/-- An index of a block of 32 lanes, its lane as an expert and a choice. -/
theorem two_index (x : S512x32.Idx) (l : Fin 32) (h : l.val = (x 1).val) :
    x = ix2 (x 0) (⟨2 * (⟨l.val / 2, by omega⟩ : Fin 16).val + (⟨l.val % 2, by omega⟩ : Fin 2).val, by show 2 * (l.val / 2) + l.val % 2 < 32; omega⟩ : Fin 32) := by
  funext a
  match a with
  | ⟨0, _⟩ => rfl
  | ⟨1, _⟩ => exact Fin.ext (by show (x 1).val = 2 * (l.val / 2) + l.val % 2; omega)

theorem row_eq (t : Fin cfg0.N) (j : Fin 4) (r : Fin 512) (R : Fin 16384) (h : R.val = 2048 * t.val + 512 * j.val + r.val) : rowNo t j r = R :=
  Fin.ext h.symm

theorem disp_point (t : Fin cfg0.N) (y : S2048x32.Idx) (R : Fin 16384) (hR : R.val = 2048 * t.val + (y 0).val) :
    dispOut (iblk m c 4 t) (rows m c t) (noises m c t) y = dispArr m c (ix2 R (y 1)) := by
  have hr : ∀ j r, rowOf (iblk m c 4 t) (rows m c t j) (noises m c t j) r = scoreRow m c (rowNo t j r) := fun j r => row_at m c t j r
  revert hr
  generalize iblk m c 4 t = w
  generalize rows m c t = xs
  generalize noises m c t = ns
  unfold dispArr
  generalize scoreRow m c = S
  intro hr
  have key : ∀ (j : Fin 4) (o : ℕ) (ho : o = 512 * j.val) (x : S512x32.Idx), (y 0).val = o + (x 0).val → (y 1).val = (x 1).val →
      dispBlk w (xs j) (ns j) x = BitVec.setWidth 32 (Row.hit (S R) ⟨(y 1).val / 2, by have := (y 1).isLt; change (y 1).val < 32 at this; omega⟩ ⟨(y 1).val % 2, by omega⟩) :=
    fun j o ho x e0 e1 => by
      have hx1 : (x 1).val < 32 := (x 1).isLt
      have hl := two_index x (y 1) e1
      refine (congrArg _ hl).trans ((dispBlk_at w (xs j) (ns j) (x 0) _ _).trans ?_)
      have hrow : rowOf w (xs j) (ns j) (x 0) = S R := (hr j (x 0)).trans (congrArg S (row_eq t j (x 0) R (by omega)))
      exact congrArg (fun z => BitVec.setWidth 32 (Row.hit z _ _)) hrow
  clear hr
  unfold dispOut
  canon_tiles x h
  · exact key 3 1536 rfl x h0 h1
  · exact key 2 1024 rfl x h0 h1
  · exact key 1 512 rfl x h0 h1
  · exact key 0 0 rfl x (by omega) h1

theorem comb_point (t : Fin cfg0.N) (y : S2048x32.Idx) (R : Fin 16384) (hR : R.val = 2048 * t.val + (y 0).val) :
    combOut (iblk m c 4 t) (rows m c t) (noises m c t) y = combArr m c (ix2 R (y 1)) := by
  have hr : ∀ j r, rowOf (iblk m c 4 t) (rows m c t j) (noises m c t j) r = scoreRow m c (rowNo t j r) := fun j r => row_at m c t j r
  revert hr
  generalize iblk m c 4 t = w
  generalize rows m c t = xs
  generalize noises m c t = ns
  unfold combArr
  generalize scoreRow m c = S
  intro hr
  have key : ∀ (j : Fin 4) (o : ℕ) (ho : o = 512 * j.val) (x : S512x32.Idx), (y 0).val = o + (x 0).val → (y 1).val = (x 1).val →
      combBlk w (xs j) (ns j) x = Row.comb (S R) ⟨(y 1).val / 2, by have := (y 1).isLt; change (y 1).val < 32 at this; omega⟩ ⟨(y 1).val % 2, by omega⟩ :=
    fun j o ho x e0 e1 => by
      have hx1 : (x 1).val < 32 := (x 1).isLt
      have hl := two_index x (y 1) e1
      refine (congrArg _ hl).trans ((combBlk_at w (xs j) (ns j) (x 0) _ _).trans ?_)
      have hrow : rowOf w (xs j) (ns j) (x 0) = S R := (hr j (x 0)).trans (congrArg S (row_eq t j (x 0) R (by omega)))
      exact congrArg (fun z => Row.comb z _ _) hrow
  clear hr
  unfold combOut
  canon_tiles x h
  · exact key 3 1536 rfl x h0 h1
  · exact key 2 1024 rfl x h0 h1
  · exact key 1 512 rfl x h0 h1
  · exact key 0 0 rfl x (by omega) h1

theorem place6 (t : Fin cfg0.N) (y : S2048x32.Idx) (R : Fin 16384) (hR : R.val = 2048 * t.val + (y 0).val) : (win0_6.blk t).view.emb y = ix2 R (y 1) := by
  have h := (idx t).2.2.2.2.2.2.1
  have e0 : win0_6.index t 0 = t.val := congrFun h 0
  have e1 : win0_6.index t 1 = 0 := congrFun h 1
  funext a
  refine Fin.ext ?_
  match a with
  | ⟨0, _⟩ =>
    show win0_6.index t 0 * 2048 + 1 * (y 0).val = R.val
    rw [e0, hR]; ring
  | ⟨1, _⟩ =>
    show win0_6.index t 1 * 32 + 1 * (y 1).val = (y 1).val
    rw [e1]; ring

theorem fin6 : (dats m 0 c).arrAt 6 (cfgs 0).N = dispArr m c := by
  refine (dats m 0 c).arrAt_eq_of_covers 6 _ (by decide +kernel) fun t hf y => ?_
  rw [after0_6, out6 m c t]
  have hy : (y 0).val < 2048 := (y 0).isLt
  have ht : t.val < 8 := lt_of_lt_of_eq t.isLt N_0
  refine (disp_point m c t y ⟨2048 * t.val + (y 0).val, by omega⟩ rfl).trans ?_
  exact (congrArg (dispArr m c) (place6 t y _ rfl)).symm

theorem place7 (t : Fin cfg0.N) (y : S2048x32.Idx) (R : Fin 16384) (hR : R.val = 2048 * t.val + (y 0).val) : (win0_7.blk t).view.emb y = ix2 R (y 1) := by
  have h := (idx t).2.2.2.2.2.2.2
  have e0 : win0_7.index t 0 = t.val := congrFun h 0
  have e1 : win0_7.index t 1 = 0 := congrFun h 1
  funext a
  refine Fin.ext ?_
  match a with
  | ⟨0, _⟩ =>
    show win0_7.index t 0 * 2048 + 1 * (y 0).val = R.val
    rw [e0, hR]; ring
  | ⟨1, _⟩ =>
    show win0_7.index t 1 * 32 + 1 * (y 1).val = (y 1).val
    rw [e1]; ring

theorem fin7 : (dats m 0 c).arrAt 7 (cfgs 0).N = combArr m c := by
  refine (dats m 0 c).arrAt_eq_of_covers 7 _ (by decide +kernel) fun t hf y => ?_
  rw [after0_7, out7 m c t]
  have hy : (y 0).val < 2048 := (y 0).isLt
  have ht : t.val < 8 := lt_of_lt_of_eq t.isLt N_0
  refine (comb_point m c t y ⟨2048 * t.val + (y 0).val, by omega⟩ rfl).trans ?_
  exact (congrArg (combArr m c) (place7 t y _ rfl)).symm

end Cert.KernelIdeal.Gen
-- ==== Proof.KTail.lean ====
module

public import proofs.«01_k».proof.Proof.Gen.KernelIdeal.Frame
public import proofs.«01_k».proof.Proof.Spec
public import Idealize.ShloMosaic.Lib.Pointwise
public import Idealize.ShloMosaic.Lib.Pipeline.ValueKit
public import Idealize.ShloMosaic.Lib.Claim

@[expose] public section

set_option maxRecDepth 16384
set_option pp.maxSteps 300

/-!
The kernel's host operations after its pipeline: reshapes, and the dispatch words made bits.
-/

noncomputable section
namespace Cert.KernelIdeal.Gen
open Idealize.ShloMosaic Idealize.ShloMosaic.TcCoe Idealize.SL.Sem
open Cert.Proof

section
variable (U : ∀ b : DevRef τ sig, b.ty.Contents (Elt Ideal))

theorem word_bit (b : BitVec 1) : IntOp.cmpi .ne (BitVec.setWidth 32 b) 0#32 = b := by
  revert b; decide

theorem tail24 (D : S16384x32.Idx → BitVec 1) (h : U (Proc.devRef .tc main_v20_0) = fun i => BitVec.setWidth 32 (D i)) :
    StableHlo.after (hostOps1 (F := Ideal)) U (Proc.devRef .tc main_v24) = shapeCast S4x4096x16x2 D shapeCasts_S16384x32_S4x4096x16x2 := by
  after_results
  rw [h]
  refine congrArg (fun x => shapeCast S4x4096x16x2 x shapeCasts_S16384x32_S4x4096x16x2) (funext fun i => ?_)
  exact word_bit (D i)
theorem tail25 : StableHlo.after (hostOps1 (F := Ideal)) U (Proc.devRef .tc main_v25) = shapeCast S4x4096x16x2 (U (Proc.devRef .tc main_v20_1)) shapeCasts_S16384x32_S4x4096x16x2 := by
  after_results; rfl
theorem tail26 (x : EReal) (h : U (Proc.devRef .tc main_v20_3) = fun _ => x) : StableHlo.after (hostOps1 (F := Ideal)) U (Proc.devRef .tc main_v26) = fun _ => x := by
  after_results; rw [h]; rfl
theorem tail27 (x : EReal) (h : U (Proc.devRef .tc main_v20_4) = fun _ => x) : StableHlo.after (hostOps1 (F := Ideal)) U (Proc.devRef .tc main_v27) = fun _ => x := by
  after_results; rw [h]; rfl
theorem tail28 (x : EReal) (h : U (Proc.devRef .tc main_v20_5) = fun _ => x) : StableHlo.after (hostOps1 (F := Ideal)) U (Proc.devRef .tc main_v28) = fun _ => x := by
  after_results; rw [h]; rfl
theorem tail29 (x : EReal) (h : U (Proc.devRef .tc main_v20_6) = fun _ => x) : StableHlo.after (hostOps1 (F := Ideal)) U (Proc.devRef .tc main_v29) = fun _ => x := by
  after_results; rw [h]; rfl
theorem tail31 (x : EReal) (h : U (Proc.devRef .tc main_v20_7) = fun _ => x) : StableHlo.after (hostOps1 (F := Ideal)) U (Proc.devRef .tc main_v31) = fun _ => x := by
  after_results; rw [h]; rfl
theorem cast16 (x : Row.Vals) : shapeCast S16 (fun i : S1x16.Idx => x (i 1)) shapeCasts_S1x16_S16 = (fun i : S16.Idx => x (i 0)) := by
  funext i
  obtain ⟨e, rfl⟩ : ∃ e, i = ix1 e := ⟨i 0, funext fun a => match a with | ⟨0, _⟩ => rfl⟩
  pointwise
theorem tail30 (x : Row.Vals) (h : U (Proc.devRef .tc main_v20_2) = fun i : S1x16.Idx => x (i 1)) :
    StableHlo.after (hostOps1 (F := Ideal)) U (Proc.devRef .tc main_v30) = fun i : S16.Idx => x (i 0) := by
  after_results; rw [h]; exact cast16 x
end

/-- Lanes split into experts and choices, in the results' shape. -/
theorem lanes_eq {α : Type} (f : Fin 16384 → Fin 16 → Fin 2 → α) (h : (⟨3, ![16384, 16, 2]⟩ : Shape).ShapeCasts S4x4096x16x2) :
    shapeCast S4x4096x16x2 (fun i : S16384x32.Idx => f (i 0) ⟨(i 1).val / 2, by have := (i 1).isLt; change (i 1).val < 32 at this; omega⟩ ⟨(i 1).val % 2, by omega⟩) shapeCasts_S16384x32_S4x4096x16x2
      = shapeCast S4x4096x16x2 (fun i : (⟨3, ![16384, 16, 2]⟩ : Shape).Idx => f (i 0) (i 1) (i 2)) h := by
  funext i
  obtain ⟨a, b, e, k, rfl⟩ : ∃ a b e k, i = ix4 a b e k := ⟨i 0, i 1, i 2, i 3, funext fun a => match a with | ⟨0, _⟩ => rfl | ⟨1, _⟩ => rfl | ⟨2, _⟩ => rfl | ⟨3, _⟩ => rfl⟩
  pointwise
  exact congrArg₂ (f _) (Fin.ext (by show (e.val * 2 + k.val) / 2 = e.val; omega)) (Fin.ext (by show (e.val * 2 + k.val) % 2 = k.val; omega))

end Cert.KernelIdeal.Gen
-- ==== Proof.KRun.lean ====
module

public import proofs.«01_k».proof.Proof.KOuts
public import proofs.«01_k».proof.Proof.KTail

@[expose] public section

set_option maxRecDepth 16384
set_option pp.maxSteps 300

/-!
The kernel's results, in terms of the rows' scores.
-/

noncomputable section
namespace Cert.KernelIdeal.Gen
open Idealize.ShloMosaic Idealize.ShloMosaic.TcCoe Idealize.SL.Sem
open Cert.Proof
variable (m : (ℓ : Loc nD τ sig) → Buf (Elt Ideal) ℓ) (c : Dev nD)

/-- The contents the pipeline leaves. -/
def left : ∀ b : DevRef τ sig, b.ty.Contents (Elt Ideal) :=
  Pipeline.withArrays spec0 c (V0 m c) fun w => (dats m 0 c).arrAt w (cfgs 0).N

theorem left_arr (w : Fin cfg0.W) : left m c (Proc.devRef .tc (Pipeline.arrRef spec0 w)) = (dats m 0 c).arrAt w (cfgs 0).N :=
  Pipeline.withArrays_arr_shared spec0 c (V0 m c) _ (Pipeline.Dat.arrAt_sharedIn (dats m 0 c) sharedIn0 (V0 m c) (A_eq m c) _) w

theorem rest_after {r : PUnit × MemSt nD τ sig (Elt Ideal)} (h : Pipeline.FramePost cfgs (dats m) 0 (Pipeline.afterTail₀ cfgs (dats m) 0 (V0 m) [hostOps1]) r)
    (b : Ref sig .tc) (hb : b ∈ Pipeline.restRefs sig spec0) :
    r.2.mem ((c.tc : Thread nD τ).loc b) = StableHlo.after (hostOps1 (F := Ideal)) (left m c) (Proc.devRef .tc b) :=
  (h c).2 b hb

theorem res24 : StableHlo.after (hostOps1 (F := Ideal)) (left m c) (Proc.devRef .tc main_v24)
    = shapeCast S4x4096x16x2 (fun i : S16384x32.Idx => Row.hit (scoreRow m c (i 0)) ⟨(i 1).val / 2, by have := (i 1).isLt; change (i 1).val < 32 at this; omega⟩ ⟨(i 1).val % 2, by omega⟩) shapeCasts_S16384x32_S4x4096x16x2 :=
  tail24 (left m c) _ ((left_arr m c 6).trans (fin6 m c))
theorem res25 : StableHlo.after (hostOps1 (F := Ideal)) (left m c) (Proc.devRef .tc main_v25)
    = shapeCast S4x4096x16x2 (combArr m c) shapeCasts_S16384x32_S4x4096x16x2 :=
  (tail25 (left m c)).trans (congrArg (fun x => shapeCast S4x4096x16x2 x shapeCasts_S16384x32_S4x4096x16x2) ((left_arr m c 7).trans (fin7 m c)))
theorem res26 : StableHlo.after (hostOps1 (F := Ideal)) (left m c) (Proc.devRef .tc main_v26) = fun _ => Row.loadLoss (picks m c) (total m c) :=
  tail26 (left m c) _ ((left_arr m c 9).trans (fin9 m c))
theorem res27 : StableHlo.after (hostOps1 (F := Ideal)) (left m c) (Proc.devRef .tc main_v27) = fun _ => Row.importance (total m c) :=
  tail27 (left m c) _ ((left_arr m c 10).trans (fin10 m c))
theorem res28 : StableHlo.after (hostOps1 (F := Ideal)) (left m c) (Proc.devRef .tc main_v28) = fun _ => Row.zLoss (∑ R, Row.lse (scoreRow m c R) * Row.lse (scoreRow m c R)) :=
  tail28 (left m c) _ ((left_arr m c 11).trans (fin11 m c))
theorem res29 : StableHlo.after (hostOps1 (F := Ideal)) (left m c) (Proc.devRef .tc main_v29) = fun _ => Row.entLoss (∑ R, -Row.plogp (scoreRow m c R)) :=
  tail29 (left m c) _ ((left_arr m c 12).trans (fin12 m c))
theorem res30 : StableHlo.after (hostOps1 (F := Ideal)) (left m c) (Proc.devRef .tc main_v30) = fun i : S16.Idx => Row.share (picks m c) (i 0) :=
  tail30 (left m c) _ ((left_arr m c 8).trans (fin8 m c))
theorem res31 : StableHlo.after (hostOps1 (F := Ideal)) (left m c) (Proc.devRef .tc main_v31) = fun _ => Row.spread (fun e => Row.share (picks m c) e) :=
  tail31 (left m c) _ ((left_arr m c 13).trans (fin13 m c))

theorem run_left (ρ : Dev nD → PrngReg) : θ_run (defs (F := Ideal)) (onTc (τ := τ) (main (F := Ideal))) ⟨m, fun _ => 0, ρ⟩ (fun r => ∀ c : Dev nD,
    (r.2.mem ((c.tc : Thread nD τ).loc main_arg0) = m ((c.tc : Thread nD τ).loc main_arg0)
      ∧ r.2.mem ((c.tc : Thread nD τ).loc main_arg1) = m ((c.tc : Thread nD τ).loc main_arg1))
    ∧ ∀ b ∈ Pipeline.restRefs sig spec0, r.2.mem ((c.tc : Thread nD τ).loc b) = StableHlo.after (hostOps1 (F := Ideal)) (left m c) (Proc.devRef .tc b)) :=
  θ_run_mono (θ_run_and (unchanged m ρ) (run_main m ρ)) fun r h c => ⟨h.1 c, fun b hb => rest_after m c h.2 b hb⟩

end Cert.KernelIdeal.Gen
-- ==== Proof.KEntry.lean ====
module

public import proofs.«01_k».proof.Proof.KVals

@[expose] public section

set_option maxRecDepth 65536
set_option pp.maxSteps 300

/-!
What the kernel's windows hold on entry, in terms of its arguments.
-/

noncomputable section
namespace Cert.KernelIdeal.Gen
open Idealize.ShloMosaic Idealize.ShloMosaic.TcCoe Idealize.SL.Sem
open Cert.Proof
variable (m : (ℓ : Loc nD τ sig) → Buf (Elt Ideal) ℓ) (c : Dev nD)

theorem entry_v0 : V m c main_v0 = shapeCast S16384x2048 (m ((c.tc : Thread nD τ).loc main_arg0)) shapeCasts_S4x4096x2048_S16384x2048 := by
  entry_read
  rfl
theorem entry_v19 : V m c main_v19 = transpose S2048x16 [1, 0] (m ((c.tc : Thread nD τ).loc main_arg1)) transposes_S16x2048_S2048x16_1_0 := by
  entry_read
  rfl
end Cert.KernelIdeal.Gen
-- ==== Proof.RefOps.lean ====
module

public import proofs.«01_k».proof.Proof.Gen.ReferenceIdeal
public import proofs.«01_k».proof.Defs
public import Idealize.ShloMosaic.Lib.Claim

@[expose] public section

set_option maxRecDepth 65536

noncomputable section

namespace Cert.Proof.Ref

open Idealize.ShloMosaic Idealize.ShloMosaic.TcCoe Idealize.SL.Sem
open Cert.ReferenceIdeal

/-- The reference's operations: over extended reals. -/
abbrev Ops := List (HloOp Cert.ReferenceIdeal.τ Cert.ReferenceIdeal.sig (Elt Ideal))

section
variable {nD : Nat} {τ : Topo} {sig : RefSig} {Val : EltTy → Type} {Λ : Labels}

/-- One more operation before a line written as two lists goes to the first of them. -/
theorem isSeq_consLeft {op : HloOp τ sig Val} {k : Prog (TpuEff nD τ sig Val Λ .tc) PUnit} {A B : List (HloOp τ sig Val)}
    (h : StableHlo.IsSeq k (A ++ B)) : StableHlo.IsSeq ((hlo rfl op fun _ => .ret (⟨⟩ : PUnit)) >>= fun _ => k) ((op :: A) ++ B) :=
  StableHlo.IsSeq.cons h

/-- A line is the empty list and itself. -/
theorem isSeq_nilLeft {k : Prog (TpuEff nD τ sig Val Λ .tc) PUnit} {B : List (HloOp τ sig Val)}
    (h : StableHlo.IsSeq k B) : StableHlo.IsSeq k ([] ++ B) := h
end

/-- The operations of the reference's first part: those up to the noise, then the scores and the two largest of each row. -/
def part0 : {p : Ops × Ops // ∀ d, StableHlo.IsSeq (main_part0 (F := Ideal) d) (p.1 ++ p.2)} :=
  by apply @Subtype.mk (Ops × Ops) _ (Prod.mk _ _)
     intro d; iterate 290 apply isSeq_consLeft
     apply isSeq_nilLeft; hlo_seq
def part1 : {p : Ops // ∀ d, StableHlo.IsSeq (main_part1 (F := Ideal) d) p} := by apply Subtype.mk; hlo_seq
def part2 : {p : Ops // ∀ d, StableHlo.IsSeq (main_part2 (F := Ideal) d) p} := by apply Subtype.mk; hlo_seq
def part3 : {p : Ops // ∀ d, StableHlo.IsSeq (main_part3 (F := Ideal) d) p} := by apply Subtype.mk; hlo_seq

end Cert.Proof.Ref
-- ==== Proof.Lockstep.lean ====
module

public import Idealize.ShloMosaic.Lib.Claim
public import Idealize.ShloMosaic.PureOps.Ideal

@[expose] public section

namespace Cert.Proof.Lockstep

open Idealize.ShloMosaic Idealize.ShloMosaic.TcCoe

/-! Two programs that compute one value by the same operations on buffers of their own: walked side by side, each
operation of the one reads buffers that hold what the buffers its partner reads hold, so its result holds what its
partner's does. -/

variable {τ τ' : Topo} {sig sig' : RefSig} {Val : EltTy → Type}

/-- One step of the walk: the pairs of buffers read and the pair written, or a buffer written on one side alone. -/
inductive Step (sig sig' : RefSig) where
  | both (reads : List (Ref sig .tc × Ref sig' .tc)) (out : Ref sig .tc × Ref sig' .tc)
  | left (y : Ref sig .tc)
  | right (y' : Ref sig' .tc)

/-- Two lines of operations walked by a list of steps. -/
inductive Lock : List (HloOp τ sig Val) → List (HloOp τ' sig' Val) → List (Step sig sig') → Prop
  | nil : Lock [] [] []
  | both {op : HloOp τ sig Val} {op' : HloOp τ' sig' Val} {ops : List (HloOp τ sig Val)} {ops' : List (HloOp τ' sig' Val)}
      {S : List (Step sig sig')} (reads : List (Ref sig .tc × Ref sig' .tc)) (y : Ref sig .tc) (y' : Ref sig' .tc)
      (run : ∀ (V : Valuation τ sig Val) (V' : Valuation τ' sig' Val),
        (∀ p ∈ reads, HEq (V (Proc.devRef .tc p.1)) (V' (Proc.devRef .tc p.2))) →
          HEq (op.result V (Proc.devRef .tc y)) (op'.result V' (Proc.devRef .tc y')))
      (keep : ∀ (V : Valuation τ sig Val) (r : Ref sig .tc), r ≠ y → op.result V (Proc.devRef .tc r) = V (Proc.devRef .tc r))
      (keep' : ∀ (V' : Valuation τ' sig' Val) (r : Ref sig' .tc), r ≠ y' → op'.result V' (Proc.devRef .tc r) = V' (Proc.devRef .tc r))
      (h : Lock ops ops' S) : Lock (op :: ops) (op' :: ops') (.both reads (y, y') :: S)
  | left {op : HloOp τ sig Val} {ops : List (HloOp τ sig Val)} {ops' : List (HloOp τ' sig' Val)}
      {S : List (Step sig sig')} (y : Ref sig .tc)
      (keep : ∀ (V : Valuation τ sig Val) (r : Ref sig .tc), r ≠ y → op.result V (Proc.devRef .tc r) = V (Proc.devRef .tc r))
      (h : Lock ops ops' S) : Lock (op :: ops) ops' (.left y :: S)
  | right {op' : HloOp τ' sig' Val} {ops : List (HloOp τ sig Val)} {ops' : List (HloOp τ' sig' Val)}
      {S : List (Step sig sig')} (y' : Ref sig' .tc)
      (keep' : ∀ (V' : Valuation τ' sig' Val) (r : Ref sig' .tc), r ≠ y' → op'.result V' (Proc.devRef .tc r) = V' (Proc.devRef .tc r))
      (h : Lock ops ops' S) : Lock ops (op' :: ops') (.right y' :: S)

/-- Every step reads pairs already known equal, and writes buffers not among them. -/
def check : List (Ref sig .tc × Ref sig' .tc) → List (Step sig sig') → Bool
  | _, [] => true
  | R, .both reads out :: S => reads.all (fun p => decide (p ∈ R)) && R.all (fun p => decide (p.1 ≠ out.1) && decide (p.2 ≠ out.2)) && check (out :: R) S
  | R, .left y :: S => R.all (fun p => decide (p.1 ≠ y)) && check R S
  | R, .right y' :: S => R.all (fun p => decide (p.2 ≠ y')) && check R S

/-- The pairs known equal at the end. -/
def known : List (Ref sig .tc × Ref sig' .tc) → List (Step sig sig') → List (Ref sig .tc × Ref sig' .tc)
  | R, [] => R
  | R, .both _ out :: S => known (out :: R) S
  | R, .left _ :: S => known R S
  | R, .right _ :: S => known R S

/-- The walk: from contents that agree on the known pairs, the lines leave contents that agree on the pairs known then. -/
theorem Lock.run {ops : List (HloOp τ sig Val)} {ops' : List (HloOp τ' sig' Val)} {S : List (Step sig sig')} (h : Lock ops ops' S) :
    ∀ (R : List (Ref sig .tc × Ref sig' .tc)) (V : Valuation τ sig Val) (V' : Valuation τ' sig' Val),
      check R S = true → (∀ p ∈ R, HEq (V (Proc.devRef .tc p.1)) (V' (Proc.devRef .tc p.2))) →
      ∀ p ∈ known R S, HEq (StableHlo.after ops V (Proc.devRef .tc p.1)) (StableHlo.after ops' V' (Proc.devRef .tc p.2)) := by
  induction h with
  | nil => intro R V V' _ hR p hp; exact hR p hp
  | both reads y y' run keep keep' _ ih =>
    intro R V V' hc hR p hp
    simp only [check, Bool.and_eq_true, List.all_eq_true, decide_eq_true_eq] at hc
    refine ih _ _ _ hc.2 (fun q hq => ?_) p hp
    rcases List.mem_cons.mp hq with rfl | hq
    · exact run V V' fun q hq => hR q (hc.1.1 q hq)
    · rw [keep V q.1 (hc.1.2 q hq).1, keep' V' q.2 (hc.1.2 q hq).2]; exact hR q hq
  | left y keep _ ih =>
    intro R V V' hc hR p hp
    simp only [check, Bool.and_eq_true, List.all_eq_true, decide_eq_true_eq] at hc
    refine ih _ _ _ hc.2 (fun q hq => ?_) p hp
    rw [keep V q.1 (hc.1 q hq)]; exact hR q hq
  | right y' keep' _ ih =>
    intro R V V' hc hR p hp
    simp only [check, Bool.and_eq_true, List.all_eq_true, decide_eq_true_eq] at hc
    refine ih _ _ _ hc.2 (fun q hq => ?_) p hp
    rw [keep' V' q.2 (hc.1 q hq)]; exact hR q hq

/-- Two walks, one after the other. -/
theorem Lock.append {A B : List (HloOp τ sig Val)} {A' B' : List (HloOp τ' sig' Val)} {S T : List (Step sig sig')}
    (h : Lock A A' S) (g : Lock B B' T) : Lock (A ++ B) (A' ++ B') (S ++ T) := by
  induction h with
  | nil => exact g
  | both reads y y' run keep keep' _ ih => exact .both reads y y' run keep keep' ih
  | left y keep _ ih => exact .left y keep ih
  | right y' keep' _ ih => exact .right y' keep' ih

/-- A walk of the first operations of two lines and a walk of the others. -/
theorem Lock.split (n n' : Nat) {A : List (HloOp τ sig Val)} {A' : List (HloOp τ' sig' Val)} {S T : List (Step sig sig')}
    (h : Lock (A.take n) (A'.take n') S) (g : Lock (A.drop n) (A'.drop n') T) : Lock A A' (S ++ T) := by
  have := h.append g
  rwa [List.take_append_drop, List.take_append_drop] at this

section builders
variable {ops : List (HloOp τ sig Val)} {ops' : List (HloOp τ' sig' Val)} {S : List (Step sig sig')}

theorem Lock.nullary {y : Ref sig .tc} {y' : Ref sig' .tc} {v : y.ty.Contents Val} {v' : y'.ty.Contents Val} {hy hy'}
    (hv : HEq v v') (h : Lock ops ops' S) :
    Lock (StableHlo.nullary (τ := τ) y v hy :: ops) (StableHlo.nullary (τ := τ') y' v' hy' :: ops') (.both [] (y, y') :: S) :=
  .both [] y y' (fun V V' _ => by rw [StableHlo.nullary_result, StableHlo.nullary_result]; exact hv)
    (fun V r hr => StableHlo.nullary_result_ne _ _ _ _ hr) (fun V r hr => StableHlo.nullary_result_ne _ _ _ _ hr) h

/-- Functions equal as such, at arguments equal as such, over types equal as such. -/
theorem heq_app {A A' B B' : Type} {f : A → B} {f' : A' → B'} {a : A} {a' : A'} (hA : A = A') (hB : B = B') (hf : HEq f f') (ha : HEq a a') :
    HEq (f a) (f' a') := by
  subst hA; subst hB; cases hf; cases ha; rfl

theorem Lock.unary {x y : Ref sig .tc} {x' y' : Ref sig' .tc} {f : x.ty.Contents Val → y.ty.Contents Val}
    {f' : x'.ty.Contents Val → y'.ty.Contents Val} {hx hy hx' hy'}
    (tx : x.ty.Contents Val = x'.ty.Contents Val) (ty : y.ty.Contents Val = y'.ty.Contents Val) (hf : HEq f f') (h : Lock ops ops' S) :
    Lock (StableHlo.unary (τ := τ) x y f hx hy :: ops) (StableHlo.unary (τ := τ') x' y' f' hx' hy' :: ops') (.both [(x, x')] (y, y') :: S) :=
  .both _ y y' (fun V V' hR => by
      rw [StableHlo.unary_result, StableHlo.unary_result]
      exact heq_app tx ty hf (hR (x, x') (List.mem_singleton.mpr rfl)))
    (fun V r hr => StableHlo.unary_result_ne _ _ _ _ _ _ hr) (fun V r hr => StableHlo.unary_result_ne _ _ _ _ _ _ hr) h

theorem Lock.binary {a b y : Ref sig .tc} {a' b' y' : Ref sig' .tc} {f : a.ty.Contents Val → b.ty.Contents Val → y.ty.Contents Val}
    {f' : a'.ty.Contents Val → b'.ty.Contents Val → y'.ty.Contents Val} {ha hb hy ha' hb' hy'}
    (ta : a.ty.Contents Val = a'.ty.Contents Val) (tb : b.ty.Contents Val = b'.ty.Contents Val)
    (ty : y.ty.Contents Val = y'.ty.Contents Val) (hf : HEq f f') (h : Lock ops ops' S) :
    Lock (StableHlo.binary (τ := τ) a b y f ha hb hy :: ops) (StableHlo.binary (τ := τ') a' b' y' f' ha' hb' hy' :: ops')
      (.both [(a, a'), (b, b')] (y, y') :: S) :=
  .both _ y y' (fun V V' hR => by
      rw [StableHlo.binary_result, StableHlo.binary_result]
      refine heq_app tb ty (heq_app ta (by rw [tb, ty]) hf (hR (a, a') ?_)) (hR (b, b') ?_) <;> simp)
    (fun V r hr => StableHlo.binary_result_ne _ _ _ _ _ _ _ _ hr) (fun V r hr => StableHlo.binary_result_ne _ _ _ _ _ _ _ _ hr) h

/-- One reshape of contents equal as such, between types equal as such. -/
theorem heq_cast {X Y X' Y' : BufTy} (tx : X = X') (ty : Y = Y') {he : X.elt = Y.elt} {hn : X.shape.ShapeCasts Y.shape}
    {he' : X'.elt = Y'.elt} {hn' : X'.shape.ShapeCasts Y'.shape} {u : X.Contents Val} {u' : X'.Contents Val} (hu : HEq u u') :
    HEq (fun i => he ▸ shapeCast Y.shape u hn i : Y.Contents Val) (fun i => he' ▸ shapeCast Y'.shape u' hn' i : Y'.Contents Val) := by
  subst tx; subst ty; cases hu; rfl

theorem Lock.reshape {x y : Ref sig .tc} {x' y' : Ref sig' .tc} {he hn hx hy he' hn' hx' hy'}
    (tx : x.ty = x'.ty) (ty : y.ty = y'.ty) (h : Lock ops ops' S) :
    Lock (StableHlo.reshape (τ := τ) (Val := Val) x y he hn hx hy :: ops) (StableHlo.reshape (τ := τ') (Val := Val) x' y' he' hn' hx' hy' :: ops')
      (.both [(x, x')] (y, y') :: S) :=
  .both _ y y' (fun V V' hR => by
      rw [StableHlo.reshape_result, StableHlo.reshape_result]
      exact heq_cast tx ty (hR (x, x') (List.mem_singleton.mpr rfl)))
    (fun V r hr => StableHlo.reshape_result_ne _ _ _ _ _ _ _ hr) (fun V r hr => StableHlo.reshape_result_ne _ _ _ _ _ _ _ hr) h

theorem Lock.leftUnary {x y : Ref sig .tc} {f : x.ty.Contents Val → y.ty.Contents Val} {hx hy} (h : Lock ops ops' S) :
    Lock (StableHlo.unary (τ := τ) x y f hx hy :: ops) ops' (.left y :: S) :=
  .left y (fun V r hr => StableHlo.unary_result_ne _ _ _ _ _ _ hr) h
theorem Lock.leftBinary {a b y : Ref sig .tc} {f : a.ty.Contents Val → b.ty.Contents Val → y.ty.Contents Val} {ha hb hy} (h : Lock ops ops' S) :
    Lock (StableHlo.binary (τ := τ) a b y f ha hb hy :: ops) ops' (.left y :: S) :=
  .left y (fun V r hr => StableHlo.binary_result_ne _ _ _ _ _ _ _ _ hr) h
theorem Lock.leftReshape {x y : Ref sig .tc} {he hn hx hy} (h : Lock ops ops' S) :
    Lock (StableHlo.reshape (τ := τ) (Val := Val) x y he hn hx hy :: ops) ops' (.left y :: S) :=
  .left y (fun V r hr => StableHlo.reshape_result_ne _ _ _ _ _ _ _ hr) h
theorem Lock.rightUnary {x' y' : Ref sig' .tc} {f' : x'.ty.Contents Val → y'.ty.Contents Val} {hx' hy'} (h : Lock ops ops' S) :
    Lock ops (StableHlo.unary (τ := τ') x' y' f' hx' hy' :: ops') (.right y' :: S) :=
  .right y' (fun V r hr => StableHlo.unary_result_ne _ _ _ _ _ _ hr) h
theorem Lock.rightReshape {x' y' : Ref sig' .tc} {he hn hx hy} (h : Lock ops ops' S) :
    Lock ops (StableHlo.reshape (τ := τ') (Val := Val) x' y' he hn hx hy :: ops') (.right y' :: S) :=
  .right y' (fun V r hr => StableHlo.reshape_result_ne _ _ _ _ _ _ _ hr) h
end builders

end Cert.Proof.Lockstep
-- ==== Proof.NoiseBase.lean ====
module

public import proofs.«01_k».proof.Proof.RefOps
public import proofs.«01_k».proof.Proof.Lockstep
public import proofs.«01_k».proof.Proof.Gen.KernelIdeal.Frame

@[expose] public section

/-! The operations of the two programs that lead to the noise, cut into pieces. -/

noncomputable section
namespace Cert.Proof.Noise
open Idealize.ShloMosaic Idealize.ShloMosaic.TcCoe Idealize.SL.Sem

/-- The reference's operations through the noise. -/
def opsR := Ref.part0.1.1
/-- The kernel's host operations before its pipeline. -/
def opsK := List.flatten [Cert.KernelIdeal.Gen.hostOps0 (F := Ideal), Cert.KernelIdeal.Gen.hostOps0_1, Cert.KernelIdeal.Gen.hostOps0_2]

end Cert.Proof.Noise
-- ==== Proof.Noise0.lean ====
module

public import proofs.«01_k».proof.Proof.NoiseBase

@[expose] public section

set_option maxRecDepth 65536
set_option pp.maxSteps 60

/-! One piece of the noise's operations, the two programs walked side by side. -/

noncomputable section
namespace Cert.Proof.Noise
open Idealize.ShloMosaic Idealize.ShloMosaic.TcCoe Idealize.SL.Sem
open Cert.Proof.Lockstep

set_option maxHeartbeats 0 in
/-- The steps of this piece, and that they walk it. -/
def walk0 : {S : List (Step Cert.ReferenceIdeal.sig Cert.KernelIdeal.sig) // Lock (opsR.take 3) (opsK.take 1) S} :=
  by
    apply Subtype.mk
    simp only [opsR, opsK, Ref.part0, Cert.KernelIdeal.Gen.hostOps0, Cert.KernelIdeal.Gen.hostOps0_1,
      Cert.KernelIdeal.Gen.hostOps0_2, List.flatten_cons, List.flatten_nil, List.cons_append,
      List.nil_append, List.append_nil, List.take_succ_cons, List.take_zero, List.drop_succ_cons, List.drop_zero]
    with_reducible apply Lock.rightReshape
    with_reducible apply Lock.leftReshape
    with_reducible apply Lock.leftUnary
    with_reducible apply Lock.leftBinary
    exact Lock.nil

end Cert.Proof.Noise
-- ==== Proof.Noise1.lean ====
module

public import proofs.«01_k».proof.Proof.NoiseBase

@[expose] public section

set_option maxRecDepth 65536
set_option pp.maxSteps 60

/-! One piece of the noise's operations, the two programs walked side by side. -/

noncomputable section
namespace Cert.Proof.Noise
open Idealize.ShloMosaic Idealize.ShloMosaic.TcCoe Idealize.SL.Sem
open Cert.Proof.Lockstep

set_option maxHeartbeats 0 in
/-- The steps of this piece, and that they walk it. -/
def walk1 : {S : List (Step Cert.ReferenceIdeal.sig Cert.KernelIdeal.sig) // Lock ((opsR.drop 3).take 36) ((opsK.drop 1).take 36) S} :=
  by
    apply Subtype.mk
    simp only [opsR, opsK, Ref.part0, Cert.KernelIdeal.Gen.hostOps0, Cert.KernelIdeal.Gen.hostOps0_1,
      Cert.KernelIdeal.Gen.hostOps0_2, List.flatten_cons, List.flatten_nil, List.cons_append,
      List.nil_append, List.append_nil, List.take_succ_cons, List.take_zero, List.drop_succ_cons, List.drop_zero]
    repeat (first
      | ((with_reducible apply Lock.nullary); exact HEq.rfl)
      | ((with_reducible apply Lock.unary); rfl; rfl; exact HEq.rfl)
      | ((with_reducible apply Lock.binary); rfl; rfl; rfl; exact HEq.rfl)
      | ((with_reducible apply Lock.reshape); rfl; rfl))
    exact Lock.nil

end Cert.Proof.Noise
-- ==== Proof.Noise2.lean ====
module

public import proofs.«01_k».proof.Proof.NoiseBase

@[expose] public section

set_option maxRecDepth 65536
set_option pp.maxSteps 60

/-! One piece of the noise's operations, the two programs walked side by side. -/

noncomputable section
namespace Cert.Proof.Noise
open Idealize.ShloMosaic Idealize.ShloMosaic.TcCoe Idealize.SL.Sem
open Cert.Proof.Lockstep

set_option maxHeartbeats 0 in
/-- The steps of this piece, and that they walk it. -/
def walk2 : {S : List (Step Cert.ReferenceIdeal.sig Cert.KernelIdeal.sig) // Lock ((opsR.drop 39).take 36) ((opsK.drop 37).take 36) S} :=
  by
    apply Subtype.mk
    simp only [opsR, opsK, Ref.part0, Cert.KernelIdeal.Gen.hostOps0, Cert.KernelIdeal.Gen.hostOps0_1,
      Cert.KernelIdeal.Gen.hostOps0_2, List.flatten_cons, List.flatten_nil, List.cons_append,
      List.nil_append, List.append_nil, List.take_succ_cons, List.take_zero, List.drop_succ_cons, List.drop_zero]
    repeat (first
      | ((with_reducible apply Lock.nullary); exact HEq.rfl)
      | ((with_reducible apply Lock.unary); rfl; rfl; exact HEq.rfl)
      | ((with_reducible apply Lock.binary); rfl; rfl; rfl; exact HEq.rfl)
      | ((with_reducible apply Lock.reshape); rfl; rfl))
    exact Lock.nil

end Cert.Proof.Noise
-- ==== Proof.Noise3.lean ====
module

public import proofs.«01_k».proof.Proof.NoiseBase

@[expose] public section

set_option maxRecDepth 65536
set_option pp.maxSteps 60

/-! One piece of the noise's operations, the two programs walked side by side. -/

noncomputable section
namespace Cert.Proof.Noise
open Idealize.ShloMosaic Idealize.ShloMosaic.TcCoe Idealize.SL.Sem
open Cert.Proof.Lockstep

set_option maxHeartbeats 0 in
/-- The steps of this piece, and that they walk it. -/
def walk3 : {S : List (Step Cert.ReferenceIdeal.sig Cert.KernelIdeal.sig) // Lock ((opsR.drop 75).take 36) ((opsK.drop 73).take 36) S} :=
  by
    apply Subtype.mk
    simp only [opsR, opsK, Ref.part0, Cert.KernelIdeal.Gen.hostOps0, Cert.KernelIdeal.Gen.hostOps0_1,
      Cert.KernelIdeal.Gen.hostOps0_2, List.flatten_cons, List.flatten_nil, List.cons_append,
      List.nil_append, List.append_nil, List.take_succ_cons, List.take_zero, List.drop_succ_cons, List.drop_zero]
    repeat (first
      | ((with_reducible apply Lock.nullary); exact HEq.rfl)
      | ((with_reducible apply Lock.unary); rfl; rfl; exact HEq.rfl)
      | ((with_reducible apply Lock.binary); rfl; rfl; rfl; exact HEq.rfl)
      | ((with_reducible apply Lock.reshape); rfl; rfl))
    exact Lock.nil

end Cert.Proof.Noise
-- ==== Proof.Noise4.lean ====
module

public import proofs.«01_k».proof.Proof.NoiseBase

@[expose] public section

set_option maxRecDepth 65536
set_option pp.maxSteps 60

/-! One piece of the noise's operations, the two programs walked side by side. -/

noncomputable section
namespace Cert.Proof.Noise
open Idealize.ShloMosaic Idealize.ShloMosaic.TcCoe Idealize.SL.Sem
open Cert.Proof.Lockstep

set_option maxHeartbeats 0 in
/-- The steps of this piece, and that they walk it. -/
def walk4 : {S : List (Step Cert.ReferenceIdeal.sig Cert.KernelIdeal.sig) // Lock ((opsR.drop 111).take 36) ((opsK.drop 109).take 36) S} :=
  by
    apply Subtype.mk
    simp only [opsR, opsK, Ref.part0, Cert.KernelIdeal.Gen.hostOps0, Cert.KernelIdeal.Gen.hostOps0_1,
      Cert.KernelIdeal.Gen.hostOps0_2, List.flatten_cons, List.flatten_nil, List.cons_append,
      List.nil_append, List.append_nil, List.take_succ_cons, List.take_zero, List.drop_succ_cons, List.drop_zero]
    repeat (first
      | ((with_reducible apply Lock.nullary); exact HEq.rfl)
      | ((with_reducible apply Lock.unary); rfl; rfl; exact HEq.rfl)
      | ((with_reducible apply Lock.binary); rfl; rfl; rfl; exact HEq.rfl)
      | ((with_reducible apply Lock.reshape); rfl; rfl))
    exact Lock.nil

end Cert.Proof.Noise
-- ==== Proof.Noise5.lean ====
module

public import proofs.«01_k».proof.Proof.NoiseBase

@[expose] public section

set_option maxRecDepth 65536
set_option pp.maxSteps 60

/-! One piece of the noise's operations, the two programs walked side by side. -/

noncomputable section
namespace Cert.Proof.Noise
open Idealize.ShloMosaic Idealize.ShloMosaic.TcCoe Idealize.SL.Sem
open Cert.Proof.Lockstep

set_option maxHeartbeats 0 in
/-- The steps of this piece, and that they walk it. -/
def walk5 : {S : List (Step Cert.ReferenceIdeal.sig Cert.KernelIdeal.sig) // Lock ((opsR.drop 147).take 36) ((opsK.drop 145).take 36) S} :=
  by
    apply Subtype.mk
    simp only [opsR, opsK, Ref.part0, Cert.KernelIdeal.Gen.hostOps0, Cert.KernelIdeal.Gen.hostOps0_1,
      Cert.KernelIdeal.Gen.hostOps0_2, List.flatten_cons, List.flatten_nil, List.cons_append,
      List.nil_append, List.append_nil, List.take_succ_cons, List.take_zero, List.drop_succ_cons, List.drop_zero]
    repeat (first
      | ((with_reducible apply Lock.nullary); exact HEq.rfl)
      | ((with_reducible apply Lock.unary); rfl; rfl; exact HEq.rfl)
      | ((with_reducible apply Lock.binary); rfl; rfl; rfl; exact HEq.rfl)
      | ((with_reducible apply Lock.reshape); rfl; rfl))
    exact Lock.nil

end Cert.Proof.Noise
-- ==== Proof.Noise6.lean ====
module

public import proofs.«01_k».proof.Proof.NoiseBase

@[expose] public section

set_option maxRecDepth 65536
set_option pp.maxSteps 60

/-! One piece of the noise's operations, the two programs walked side by side. -/

noncomputable section
namespace Cert.Proof.Noise
open Idealize.ShloMosaic Idealize.ShloMosaic.TcCoe Idealize.SL.Sem
open Cert.Proof.Lockstep

set_option maxHeartbeats 0 in
/-- The steps of this piece, and that they walk it. -/
def walk6 : {S : List (Step Cert.ReferenceIdeal.sig Cert.KernelIdeal.sig) // Lock ((opsR.drop 183).take 36) ((opsK.drop 181).take 36) S} :=
  by
    apply Subtype.mk
    simp only [opsR, opsK, Ref.part0, Cert.KernelIdeal.Gen.hostOps0, Cert.KernelIdeal.Gen.hostOps0_1,
      Cert.KernelIdeal.Gen.hostOps0_2, List.flatten_cons, List.flatten_nil, List.cons_append,
      List.nil_append, List.append_nil, List.take_succ_cons, List.take_zero, List.drop_succ_cons, List.drop_zero]
    repeat (first
      | ((with_reducible apply Lock.nullary); exact HEq.rfl)
      | ((with_reducible apply Lock.unary); rfl; rfl; exact HEq.rfl)
      | ((with_reducible apply Lock.binary); rfl; rfl; rfl; exact HEq.rfl)
      | ((with_reducible apply Lock.reshape); rfl; rfl))
    exact Lock.nil

end Cert.Proof.Noise
-- ==== Proof.Noise7.lean ====
module

public import proofs.«01_k».proof.Proof.NoiseBase

@[expose] public section

set_option maxRecDepth 65536
set_option pp.maxSteps 60

/-! One piece of the noise's operations, the two programs walked side by side. -/

noncomputable section
namespace Cert.Proof.Noise
open Idealize.ShloMosaic Idealize.ShloMosaic.TcCoe Idealize.SL.Sem
open Cert.Proof.Lockstep

set_option maxHeartbeats 0 in
/-- The steps of this piece, and that they walk it. -/
def walk7 : {S : List (Step Cert.ReferenceIdeal.sig Cert.KernelIdeal.sig) // Lock ((opsR.drop 219).take 36) ((opsK.drop 217).take 36) S} :=
  by
    apply Subtype.mk
    simp only [opsR, opsK, Ref.part0, Cert.KernelIdeal.Gen.hostOps0, Cert.KernelIdeal.Gen.hostOps0_1,
      Cert.KernelIdeal.Gen.hostOps0_2, List.flatten_cons, List.flatten_nil, List.cons_append,
      List.nil_append, List.append_nil, List.take_succ_cons, List.take_zero, List.drop_succ_cons, List.drop_zero]
    repeat (first
      | ((with_reducible apply Lock.nullary); exact HEq.rfl)
      | ((with_reducible apply Lock.unary); rfl; rfl; exact HEq.rfl)
      | ((with_reducible apply Lock.binary); rfl; rfl; rfl; exact HEq.rfl)
      | ((with_reducible apply Lock.reshape); rfl; rfl))
    exact Lock.nil

end Cert.Proof.Noise
-- ==== Proof.Noise8.lean ====
module

public import proofs.«01_k».proof.Proof.NoiseBase

@[expose] public section

set_option maxRecDepth 65536
set_option pp.maxSteps 60

/-! One piece of the noise's operations, the two programs walked side by side. -/

noncomputable section
namespace Cert.Proof.Noise
open Idealize.ShloMosaic Idealize.ShloMosaic.TcCoe Idealize.SL.Sem
open Cert.Proof.Lockstep

set_option maxHeartbeats 0 in
/-- The steps of this piece, and that they walk it. -/
def walk8 : {S : List (Step Cert.ReferenceIdeal.sig Cert.KernelIdeal.sig) // Lock (opsR.drop 255) (opsK.drop 253) S} :=
  by
    apply Subtype.mk
    simp only [opsR, opsK, Ref.part0, Cert.KernelIdeal.Gen.hostOps0, Cert.KernelIdeal.Gen.hostOps0_1,
      Cert.KernelIdeal.Gen.hostOps0_2, List.flatten_cons, List.flatten_nil, List.cons_append,
      List.nil_append, List.append_nil, List.take_succ_cons, List.take_zero, List.drop_succ_cons, List.drop_zero]
    repeat (first
      | ((with_reducible apply Lock.nullary); exact HEq.rfl)
      | ((with_reducible apply Lock.unary); rfl; rfl; exact HEq.rfl)
      | ((with_reducible apply Lock.binary); rfl; rfl; rfl; exact HEq.rfl)
      | ((with_reducible apply Lock.reshape); rfl; rfl))
    with_reducible apply Lock.rightUnary
    exact Lock.nil

end Cert.Proof.Noise
-- ==== Proof.Noise.lean ====
module

public import proofs.«01_k».proof.Proof.Noise0
public import proofs.«01_k».proof.Proof.Noise1
public import proofs.«01_k».proof.Proof.Noise2
public import proofs.«01_k».proof.Proof.Noise3
public import proofs.«01_k».proof.Proof.Noise4
public import proofs.«01_k».proof.Proof.Noise5
public import proofs.«01_k».proof.Proof.Noise6
public import proofs.«01_k».proof.Proof.Noise7
public import proofs.«01_k».proof.Proof.Noise8

@[expose] public section

set_option maxRecDepth 65536
set_option pp.maxSteps 60

/-! The noise of the two programs is one array. -/

noncomputable section

namespace Cert.Proof.Noise

open Idealize.ShloMosaic Idealize.ShloMosaic.TcCoe Idealize.SL.Sem
open Cert.Proof.Lockstep

/-- A walk of a piece, then of what follows it. -/
theorem piece {A B : List _} (a b n n' a' b' : ℕ) {S T : List (Step Cert.ReferenceIdeal.sig Cert.KernelIdeal.sig)}
    (h : Lock (τ := Cert.ReferenceIdeal.τ) (τ' := Cert.KernelIdeal.τ) (Val := Elt Ideal) ((A.drop a).take n) ((B.drop b).take n') S) (ha : a' = a + n) (hb : b' = b + n')
    (g : Lock (A.drop a') (B.drop b') T) : Lock (A.drop a) (B.drop b) (S ++ T) := by
  subst ha; subst hb
  exact Lock.split n n' h (by simpa only [List.drop_drop] using g)

/-- All steps. -/
def steps := walk0.1 ++ (walk1.1 ++ (walk2.1 ++ (walk3.1 ++ (walk4.1 ++ (walk5.1 ++ (walk6.1 ++ (walk7.1 ++ walk8.1)))))))

theorem walk : Lock opsR opsK steps :=
  Lock.split 3 1 walk0.2 <|
    piece 3 1 36 36 39 37 walk1.2 rfl rfl <| piece 39 37 36 36 75 73 walk2.2 rfl rfl <| piece 75 73 36 36 111 109 walk3.2 rfl rfl <|
    piece 111 109 36 36 147 145 walk4.2 rfl rfl <| piece 147 145 36 36 183 181 walk5.2 rfl rfl <| piece 183 181 36 36 219 217 walk6.2 rfl rfl <|
    piece 219 217 36 36 255 253 walk7.2 rfl rfl walk8.2

theorem check_all : check [] steps = true := by decide +kernel

theorem last_known : (Cert.ReferenceIdeal.main_v20, Cert.KernelIdeal.main_v18) ∈ known [] steps := by decide +kernel

theorem noise (V V') : StableHlo.after opsR V (Proc.devRef .tc Cert.ReferenceIdeal.main_v20) = StableHlo.after opsK V' (Proc.devRef .tc Cert.KernelIdeal.main_v18) :=
  eq_of_heq (walk.run [] V V' check_all (fun p hp => nomatch hp) _ last_known)

end Cert.Proof.Noise
-- ==== Proof.RefRun.lean ====
module

public import proofs.«01_k».proof.Proof.RefOps
public import proofs.«01_k».proof.Proof.NoiseBase

@[expose] public section

set_option maxRecDepth 65536
set_option pp.maxSteps 100

/-! The reference's run as its parts' runs, one after the other. -/

noncomputable section
namespace Cert.Proof.Ref
open Idealize.ShloMosaic Idealize.ShloMosaic.TcCoe Idealize.SL.Sem
open Cert.ReferenceIdeal

/-- The reference's operations. -/
def ops : Ops := (part0.1.1 ++ part0.1.2) ++ (part1.1 ++ (part2.1 ++ part3.1))

theorem main_seq (d : Dev nD) : StableHlo.IsSeq (main (F := Ideal) d) ops := by
  have h0 : main_part0 (F := Ideal) d = StableHlo.seq (part0.1.1 ++ part0.1.2) := part0.2 d
  have h1 : main_part1 (F := Ideal) d = StableHlo.seq part1.1 := part1.2 d
  have h2 : main_part2 (F := Ideal) d = StableHlo.seq part2.1 := part2.2 d
  have h3 : main_part3 (F := Ideal) d = StableHlo.seq part3.1 := part3.2 d
  show main (F := Ideal) d = StableHlo.seq ops
  unfold main ops
  rw [h0, h1, h2, h3]
  generalize part0.1.1 ++ part0.1.2 = A
  generalize part1.1 = B
  generalize part2.1 = C
  generalize part3.1 = D
  rw [StableHlo.seq_append, StableHlo.seq_append, StableHlo.seq_append]

set_option maxHeartbeats 2000000 in
theorem bufs0 : (part0.1.1 ++ part0.1.2).Forall fun op => op.bufs ⊆ StableHlo.tcRefs τ sig := by
  simp only [part0]; simp
theorem bufs1 : part1.1.Forall fun op => op.bufs ⊆ StableHlo.tcRefs τ sig := by simp only [part1]; simp
theorem bufs2 : part2.1.Forall fun op => op.bufs ⊆ StableHlo.tcRefs τ sig := by simp only [part2]; simp
theorem bufs3 : part3.1.Forall fun op => op.bufs ⊆ StableHlo.tcRefs τ sig := by simp only [part3]; simp

theorem fresh0 : ∀ op ∈ part0.1.1 ++ part0.1.2, op.fresh = ∅ := by
  simp only [part0]; intro _ h; (repeat (cases h with | head => rfl | tail _ h => ?_)); exact nomatch h
theorem fresh1 : ∀ op ∈ part1.1, op.fresh = ∅ := by
  simp only [part1]; intro _ h; (repeat (cases h with | head => rfl | tail _ h => ?_)); exact nomatch h
theorem fresh2 : ∀ op ∈ part2.1, op.fresh = ∅ := by
  simp only [part2]; intro _ h; (repeat (cases h with | head => rfl | tail _ h => ?_)); exact nomatch h
theorem fresh3 : ∀ op ∈ part3.1, op.fresh = ∅ := by
  simp only [part3]; intro _ h; (repeat (cases h with | head => rfl | tail _ h => ?_)); exact nomatch h

/-- The contents after the noise, after the scores' part, and after each later part. -/
def V1 (W : ∀ b : DevRef τ sig, b.ty.Contents (Elt Ideal)) := StableHlo.after part0.1.1 W
def V2 (W : ∀ b : DevRef τ sig, b.ty.Contents (Elt Ideal)) := StableHlo.after part0.1.2 (V1 W)
def V3 (W : ∀ b : DevRef τ sig, b.ty.Contents (Elt Ideal)) := StableHlo.after part1.1 (V2 W)
def V4 (W : ∀ b : DevRef τ sig, b.ty.Contents (Elt Ideal)) := StableHlo.after part2.1 (V3 W)
def V5 (W : ∀ b : DevRef τ sig, b.ty.Contents (Elt Ideal)) := StableHlo.after part3.1 (V4 W)

theorem after_ops (W) : StableHlo.after ops W = V5 W := by
  unfold ops V5 V4 V3 V2 V1
  simp only [StableHlo.after_append]

theorem run (m : (ℓ : Loc nD τ sig) → Buf (Elt Ideal) ℓ) (g : Dev nD → PrngReg) :
    θ_run (defs (F := Ideal)) (onTc (τ := τ) (main (F := Ideal))) ⟨m, fun _ => 0, g⟩ fun r =>
      ∀ (d : Dev nD) (b : Ref sig .tc), r.2.mem ((d.tc : Thread nD τ).loc b) = V5 (StableHlo.launchContents m d) (Proc.devRef .tc b) := by
  refine θ_run_mono (StableHlo.run_hlo (defs (F := Ideal)) (main (F := Ideal)) main_seq (by decide) (by decide) ?_ ?_ m g) fun r h d b => (h d b).trans (congrFun (after_ops _) _)
  · unfold ops
    exact List.forall_append.mpr ⟨bufs0, List.forall_append.mpr ⟨bufs1, List.forall_append.mpr ⟨bufs2, bufs3⟩⟩⟩
  · unfold ops
    intro op h
    rcases List.mem_append.mp h with h | h
    · exact fresh0 op h
    rcases List.mem_append.mp h with h | h
    · exact fresh1 op h
    rcases List.mem_append.mp h with h | h
    · exact fresh2 op h
    · exact fresh3 op h

end Cert.Proof.Ref
-- ==== Proof.RefKeep.lean ====
module

public import proofs.«01_k».proof.Proof.RefOps

@[expose] public section

set_option maxRecDepth 65536
set_option pp.maxSteps 100

/-! Buffers a part of the reference leaves alone, and the products its first part computes. -/

noncomputable section
namespace Cert.Proof.Ref
open Idealize.ShloMosaic Idealize.ShloMosaic.TcCoe Idealize.SL.Sem
open Cert.ReferenceIdeal
variable (V : ∀ b : DevRef τ sig, b.ty.Contents (Elt Ideal))

theorem keep1_v42 : StableHlo.after part1.1 V (Proc.devRef .tc main_v42) = V (Proc.devRef .tc main_v42) := by
  simp only [part1]; after_results
theorem keep2_v42 : StableHlo.after part2.1 V (Proc.devRef .tc main_v42) = V (Proc.devRef .tc main_v42) := by
  simp only [part2]; after_results
theorem keep2_v74 : StableHlo.after part2.1 V (Proc.devRef .tc main_v74) = V (Proc.devRef .tc main_v74) := by
  simp only [part2]; after_results
theorem keep3_v110 : StableHlo.after part3.1 V (Proc.devRef .tc main_v110) = V (Proc.devRef .tc main_v110) := by
  simp only [part3]; after_results
theorem keep3_v120 : StableHlo.after part3.1 V (Proc.devRef .tc main_v120) = V (Proc.devRef .tc main_v120) := by
  simp only [part3]; after_results
theorem keep3_v103 : StableHlo.after part3.1 V (Proc.devRef .tc main_v103) = V (Proc.devRef .tc main_v103) := by
  simp only [part3]; after_results
theorem keep3_arg0 : StableHlo.after part3.1 V (Proc.devRef .tc main_arg0) = V (Proc.devRef .tc main_arg0) := by
  simp only [part3]; after_results
theorem keep3_arg1 : StableHlo.after part3.1 V (Proc.devRef .tc main_arg1) = V (Proc.devRef .tc main_arg1) := by
  simp only [part3]; after_results
theorem keep2_arg0 : StableHlo.after part2.1 V (Proc.devRef .tc main_arg0) = V (Proc.devRef .tc main_arg0) := by
  simp only [part2]; after_results
theorem keep2_arg1 : StableHlo.after part2.1 V (Proc.devRef .tc main_arg1) = V (Proc.devRef .tc main_arg1) := by
  simp only [part2]; after_results
theorem keep1_arg0 : StableHlo.after part1.1 V (Proc.devRef .tc main_arg0) = V (Proc.devRef .tc main_arg0) := by
  simp only [part1]; after_results
theorem keep1_arg1 : StableHlo.after part1.1 V (Proc.devRef .tc main_arg1) = V (Proc.devRef .tc main_arg1) := by
  simp only [part1]; after_results
theorem keep0_arg0 : StableHlo.after part0.1.2 V (Proc.devRef .tc main_arg0) = V (Proc.devRef .tc main_arg0) := by
  simp only [part0]; after_results
theorem keep0_arg1 : StableHlo.after part0.1.2 V (Proc.devRef .tc main_arg1) = V (Proc.devRef .tc main_arg1) := by
  simp only [part0]; after_results
end Cert.Proof.Ref
-- ==== Proof.RefPicks.lean ====
module

public import proofs.«01_k».proof.Proof.RefOps
public import proofs.«01_k».proof.Proof.Spec
public import Idealize.ShloMosaic.Lib.Pointwise
public import Idealize.ShloMosaic.Lib.Pipeline.ValueKit
public import Idealize.ShloMosaic.Lib.Routing.OpsSet
public import Idealize.ShloMosaic.Lib.Routing.OpsPair

@[expose] public section

set_option maxRecDepth 65536

/-! The reference's two scatters: what the dispatch and combine arrays hold. -/

noncomputable section
namespace Cert.Proof.Ref
open Idealize.ShloMosaic Idealize.ShloMosaic.TcCoe Idealize.SL.Sem
open Cert.ReferenceIdeal

/-- The scatter by triples of the reference. -/
abbrev place : ScatterDims S16384x16x2 S16384x2x3 S16384x2 := scatter_S16384x16x2_S16384x2x3_S16384x2_n_012_012_2

theorem start_at (idx : IVec S16384x2x3 32) (a : Fin 16384) (b : Fin 2) :
    place.start (ix2 a b) idx 0 = (idx (ix3 a b 0)).toInt ∧ place.start (ix2 a b) idx 1 = (idx (ix3 a b 1)).toInt
      ∧ place.start (ix2 a b) idx 2 = (idx (ix3 a b 2)).toInt := by
  refine ⟨?_, ?_, ?_⟩
  · exact (dif_pos (by decide : (0 : Fin 3) ∈ place.scatterDimsToOperandDims)).trans (congrArg (fun q => (idx q).toInt) (by funext q; match q with | ⟨0, _⟩ => rfl | ⟨1, _⟩ => rfl | ⟨2, _⟩ => rfl))
  · exact (dif_pos (by decide : (1 : Fin 3) ∈ place.scatterDimsToOperandDims)).trans (congrArg (fun q => (idx q).toInt) (by funext q; match q with | ⟨0, _⟩ => rfl | ⟨1, _⟩ => rfl | ⟨2, _⟩ => rfl))
  · exact (dif_pos (by decide : (2 : Fin 3) ∈ place.scatterDimsToOperandDims)).trans (congrArg (fun q => (idx q).toInt) (by funext q; match q with | ⟨0, _⟩ => rfl | ⟨1, _⟩ => rfl | ⟨2, _⟩ => rfl))

theorem window_at (a : Fin 16384) (b : Fin 2) (q : Fin 3) : place.window (ix2 a b) q = 0 := by
  fin_cases q <;> rfl

theorem word_toInt (n : Nat) (h : n < 16384) : (BitVec.ofNat 32 n).toInt = n := by
  rw [BitVec.toInt_eq_toNat_of_lt (by rw [BitVec.toNat_ofNat, Nat.mod_eq_of_lt (by omega)]; omega), BitVec.toNat_ofNat, Nat.mod_eq_of_lt (by omega)]

/-- Where an update lands: at its own row, the expert its word names, and its own choice. -/
theorem lands (i : Fin 16384 → Fin 2 → Fin 16) (idx : IVec S16384x2x3 32) (h0 : ∀ r k, idx (ix3 r k 0) = BitVec.ofNat 32 r.val)
    (h1 : ∀ r k, idx (ix3 r k 1) = BitVec.ofNat 32 (i r k).val) (h2 : ∀ r k, idx (ix3 r k 2) = BitVec.ofNat 32 k.val)
    (a : Fin 16384) (b : Fin 2) (r : Fin 16384) (e : Fin 16) (k : Fin 2) :
    place.resultIdx? (ix2 a b) idx = some (ix3 r e k) ↔ a = r ∧ i a b = e ∧ b = k := by
  have s0 := (start_at idx a b).1; have s1 := (start_at idx a b).2.1; have s2 := (start_at idx a b).2.2
  rw [h0, word_toInt _ a.isLt] at s0
  rw [h1, word_toInt _ (by have := (i a b).isLt; omega)] at s1
  rw [h2, word_toInt _ (by have := b.isLt; omega)] at s2
  rw [Routing.resultIdx?_eq_some]
  constructor
  · intro h
    have e0 := h 0; have e1 := h 1; have e2 := h 2
    rw [window_at, s0] at e0; rw [window_at, s1] at e1; rw [window_at, s2] at e2
    have g0 : (a.val : Int) + (0 : Nat) = (r.val : Int) := e0
    have g1 : ((i a b).val : Int) + (0 : Nat) = (e.val : Int) := e1
    have g2 : (b.val : Int) + (0 : Nat) = (k.val : Int) := e2
    exact ⟨Fin.ext (by omega), Fin.ext (by omega), Fin.ext (by omega)⟩
  · rintro ⟨rfl, rfl, rfl⟩ q
    rw [window_at]
    match q with
    | ⟨0, _⟩ => exact (congrArg (· + _) s0).trans (Int.add_zero _)
    | ⟨1, _⟩ => exact (congrArg (· + _) s1).trans (Int.add_zero _)
    | ⟨2, _⟩ => exact (congrArg (· + _) s2).trans (Int.add_zero _)

/-- The scatter read at an element. -/
theorem place_at {α : Type} (i : Fin 16384 → Fin 2 → Fin 16) (x0 : S16384x16x2.Idx → α) (idx : IVec S16384x2x3 32) (upd : S16384x2.Idx → α)
    (h0 : ∀ r k, idx (ix3 r k 0) = BitVec.ofNat 32 r.val)
    (h1 : ∀ r k, idx (ix3 r k 1) = BitVec.ofNat 32 (i r k).val) (h2 : ∀ r k, idx (ix3 r k 2) = BitVec.ofNat 32 k.val)
    (r : Fin 16384) (e : Fin 16) (k : Fin 2) :
    Host.scatter place (fun _ b => b) x0 idx upd (ix3 r e k) = if i r k = e then upd (ix2 r k) else x0 (ix3 r e k) := by
  by_cases hh : i r k = e
  · rw [if_pos hh]
    refine Routing.scatter_set_hit place x0 idx upd _ _ (fun j hj => ?_) (ix2 r k) ((lands i idx h0 h1 h2 ..).2 ⟨rfl, hh, rfl⟩)
    obtain ⟨a, b, rfl⟩ : ∃ a b, j = ix2 a b := ⟨j 0, j 1, by funext q; match q with | ⟨0, _⟩ => rfl | ⟨1, _⟩ => rfl⟩
    obtain ⟨rfl, _, rfl⟩ := (lands i idx h0 h1 h2 ..).1 hj
    rfl
  · rw [if_neg hh]
    refine Routing.scatter_set_miss place x0 idx upd _ fun j hj => ?_
    obtain ⟨a, b, rfl⟩ : ∃ a b, j = ix2 a b := ⟨j 0, j 1, by funext q; match q with | ⟨0, _⟩ => rfl | ⟨1, _⟩ => rfl⟩
    obtain ⟨rfl, h, rfl⟩ := (lands i idx h0 h1 h2 ..).1 hj
    exact hh h

/-- An index that is not negative is not wrapped. -/
theorem no_wrap (n : Nat) (h : n < 16384) (a : BitVec 32) :
    Scalar.select (IntOp.cmpi .slt (BitVec.ofNat 32 n) 0#32) a (BitVec.ofNat 32 n) = BitVec.ofNat 32 n :=
  Routing.wrap_of_lt _ _ (by rw [BitVec.toNat_ofNat, Nat.mod_eq_of_lt (by omega)]; omega)

variable (V : ∀ b : DevRef τ sig, b.ty.Contents (Elt Ideal))

theorem v72_0 (r : Fin 16384) (k : Fin 2) : StableHlo.after part1.1 V (Proc.devRef .tc main_v72) (ix3 r k 0) = BitVec.ofNat 32 r.val := by
  simp only [part1]; after_results; pointwise!
  try after_results_simp
  try pointwise!
  exact no_wrap _ r.isLt _

theorem v72_1 (r : Fin 16384) (k : Fin 2) (n : Fin 16) (h : V (Proc.devRef .tc main_indices) (ix2 r k) = BitVec.ofNat 32 n.val) :
    StableHlo.after part1.1 V (Proc.devRef .tc main_v72) (ix3 r k 1) = BitVec.ofNat 32 n.val := by
  simp only [part1]; after_results; pointwise!
  try after_results_simp
  try pointwise!
  rw [h]
  exact no_wrap _ (by have := n.isLt; omega) _

theorem v72_2 (r : Fin 16384) (k : Fin 2) : StableHlo.after part1.1 V (Proc.devRef .tc main_v72) (ix3 r k 2) = BitVec.ofNat 32 k.val := by
  simp only [part1]; after_results; pointwise!
  try after_results_simp
  try pointwise!
  exact no_wrap _ (by have := k.isLt; omega) _

theorem v74_eq : StableHlo.after part1.1 V (Proc.devRef .tc main_v74) = Host.scatter place (fun _ b => b) (fun _ => 0#1)
    (StableHlo.after part1.1 V (Proc.devRef .tc main_v72)) (fun _ => 1#1) := by
  simp only [part1]; after_results; rfl

theorem v96_0 (r : Fin 16384) (k : Fin 2) (h : V (Proc.devRef .tc main_v80) (ix2 r 0) = BitVec.ofNat 32 r.val) :
    StableHlo.after part2.1 V (Proc.devRef .tc main_v96) (ix3 r k 0) = BitVec.ofNat 32 r.val := by
  simp only [part2]; after_results; pointwise!
  try after_results_simp
  try pointwise!
theorem v96_1 (r : Fin 16384) (k : Fin 2) (n : BitVec 32) (h : V (Proc.devRef .tc main_v85) (ix2 r k) = n) :
    StableHlo.after part2.1 V (Proc.devRef .tc main_v96) (ix3 r k 1) = n := by
  simp only [part2]; after_results; pointwise!
  try after_results_simp
  try pointwise!
theorem v96_2 (r : Fin 16384) (k : Fin 2)  (h : V (Proc.devRef .tc main_v50) (ix2 0 k) = BitVec.ofNat 32 k.val)
   (h' : V (Proc.devRef .tc main_v87) (ix2 0 k) = 0#1) :
    StableHlo.after part2.1 V (Proc.devRef .tc main_v96) (ix3 r k 2) = BitVec.ofNat 32 k.val := by
  simp only [part2]; after_results; pointwise!
  try after_results_simp
  try pointwise!
  rw [h, h']
  rfl
theorem v97_eq : StableHlo.after part2.1 V (Proc.devRef .tc main_v97) = Host.scatter place (fun _ b => b) (V (Proc.devRef .tc main_v75))
    (StableHlo.after part2.1 V (Proc.devRef .tc main_v96)) (V (Proc.devRef .tc main_v46)) := by
  simp only [part2]; after_results; rfl

theorem v80 (r : Fin 16384) : StableHlo.after part1.1 V (Proc.devRef .tc main_v80) (ix2 r 0) = BitVec.ofNat 32 r.val := by
  simp only [part1]; after_results; pointwise!
  exact no_wrap _ r.isLt _
theorem v85 (r : Fin 16384) (k : Fin 2) (n : Fin 16) (h : V (Proc.devRef .tc main_indices) (ix2 r k) = BitVec.ofNat 32 n.val) :
    StableHlo.after part1.1 V (Proc.devRef .tc main_v85) (ix2 r k) = BitVec.ofNat 32 n.val := by
  simp only [part1]; after_results; pointwise!
  rw [h]
  exact no_wrap _ (by have := n.isLt; omega) _
theorem v50 (k : Fin 2) : StableHlo.after part1.1 V (Proc.devRef .tc main_v50) (ix2 0 k) = BitVec.ofNat 32 k.val := by
  simp only [part1]; after_results; pointwise!
theorem v87 (k : Fin 2) : StableHlo.after part1.1 V (Proc.devRef .tc main_v87) (ix2 0 k) = 0#1 := by
  simp only [part1]; after_results; pointwise!
  fin_cases k <;> rfl
theorem v75 (r : Fin 16384) (e : Fin 16) (k : Fin 2) : StableHlo.after part1.1 V (Proc.devRef .tc main_v75) (ix3 r e k) = (0 : EReal) := by
  simp only [part1]; after_results; pointwise!

end Cert.Proof.Ref
-- ==== Proof.RefVals.lean ====
module

public import proofs.«01_k».proof.Proof.RefOps
public import proofs.«01_k».proof.Proof.Spec
public import Idealize.ShloMosaic.Lib.Pointwise
public import Idealize.ShloMosaic.Lib.Pipeline.ValueKit
public import Idealize.ShloMosaic.Lib.Routing.OpsSet
public import Idealize.ShloMosaic.Lib.Routing.OpsPair

@[expose] public section

set_option maxRecDepth 65536
noncomputable section
namespace Cert.Proof.Ref
open Idealize.ShloMosaic Idealize.ShloMosaic.TcCoe Idealize.SL.Sem
open Cert.ReferenceIdeal

section reduce
variable {n0 n1 n2 : Nat}

/-- The indices of a rank-3 array that a reduction of its first and last axes drops to `j`. -/
theorem fiber_first_last (h : (⟨3, ![n0, n1, n2]⟩ : Shape).ReducesTo [0, 2] ⟨1, ![n1]⟩) (j : Fin n1)
    (i : (⟨3, ![n0, n1, n2]⟩ : Shape).Idx) : h.drop i = ix1 j ↔ ∃ k : Fin n0 × Fin n2, ix3 k.1 j k.2 = i := by
  constructor
  · intro e
    refine ⟨(i 0, i 2), ?_⟩
    funext a; apply Fin.ext
    match a with
    | ⟨0, _⟩ => rfl
    | ⟨1, _⟩ => exact (congrArg Fin.val (congrFun e 0)).symm
    | ⟨2, _⟩ => rfl
  · rintro ⟨k, rfl⟩
    funext b
    match b with
    | ⟨0, _⟩ => rfl

/-- A sum over the first and last axes of a rank-3 array. -/
theorem hostReduceAdd_first_last (h : (⟨3, ![n0, n1, n2]⟩ : Shape).ReducesTo [0, 2] ⟨1, ![n1]⟩)
    (v : (⟨3, ![n0, n1, n2]⟩ : Shape).Idx → EReal) (init : EReal) (j : Fin n1) :
    Ideal.hostReduceAdd h v init (ix1 j) = init + ∑ r : Fin n0, ∑ k : Fin n2, v (ix3 r j k) := by
  refine congrArg (init + ·) ?_
  refine (Finset.sum_filter_eq_sum_of_fiber _ (fun k : Fin n0 × Fin n2 => ix3 k.1 j k.2)
    (fun _ _ e => Prod.ext (congrFun e 0) (congrFun e 2)) (fiber_first_last h j) v).trans ?_
  simp only [Fintype.sum_prod_type]
end reduce

variable (V : ∀ b : DevRef τ sig, b.ty.Contents (Elt Ideal))

theorem div_one (x : EReal) : Ideal.div x 1 = x := by
  unfold Ideal.div; rw [if_neg one_ne_zero, inv_one, mul_one]

theorem max_top (s : Row.Vals) : max (Ideal.ofBits .f32 0xFF800000#32) (Finset.univ.fold max (Ideal.ofBits .f32 0xFF800000#32) s) = Row.top s := by
  rw [Row.negInf]
  show max ⊥ _ = _
  rw [max_eq_right bot_le]; unfold Row.top; rw [Row.negInf]

theorem v42 (r : Fin 16384) (e : Fin 16) : StableHlo.after part0.1.2 V (Proc.devRef .tc main_v42) (ix2 r e)
    = Row.score (fun x => (show EReal from V (Proc.devRef .tc main_v2) (ix2 r x)) + (show EReal from V (Proc.devRef .tc main_v20) (ix2 r x))) e := by
  simp only [part0]; after_results
  pointwise!
  simp only [div_one, max_top]
  rfl

/-! ### The two greatest scores of each row -/

theorem values0 : StableHlo.after part0.1.2 V (Proc.devRef .tc main_values)
    = (Host.topK S16384x2 1 (FloatOps.cmpfTotal (F := Ideal) (φ := .f32) .gt) (StableHlo.after part0.1.2 V (Proc.devRef .tc main_v42)) Gen.sliceFits_S16384x16_S16384x2).1 := by
  simp only [part0]; after_results
theorem indices0 : StableHlo.after part0.1.2 V (Proc.devRef .tc main_indices)
    = (Host.topK S16384x2 1 (FloatOps.cmpfTotal (F := Ideal) (φ := .f32) .gt) (StableHlo.after part0.1.2 V (Proc.devRef .tc main_v42)) Gen.sliceFits_S16384x16_S16384x2).2 := by
  simp only [part0]; after_results

/-- A row of sixteen cut to its first two, at an index. -/
theorem cut_at {α : Type} (y : S16384x16.Idx → α) (r : Fin 16384) (k : Fin 2) :
    extractStridedSlice S16384x2 (fun _ => 0) y Gen.sliceFits_S16384x16_S16384x2 (ix2 r k) = y (ix2 r (k.castLE (by decide))) := by
  refine congrArg y (funext fun a => Fin.ext ?_)
  match a with
  | ⟨0, _⟩ => exact Nat.zero_add _
  | ⟨1, _⟩ => exact Nat.zero_add _

/-- A matrix's rows sorted along the second axis, read at an index. -/
theorem sort_at {R C : Nat} {α β : Type} (cmp : α × β → α × β → BitVec 1) (x : (⟨2, ![R, C]⟩ : Shape).Idx → α)
    (y : (⟨2, ![R, C]⟩ : Shape).Idx → β) (r : Fin R) (c f : Fin C)
    (h : sortedFrom (fun a b : Fin C => cmp (x (ix2 r a), y (ix2 r a)) (x (ix2 r b), y (ix2 r b)) == 1#1) c = f) :
    (Host.sort2 ⟨2, ![R, C]⟩ 1 cmp x y).1 (ix2 r c) = x (ix2 r f) ∧ (Host.sort2 ⟨2, ![R, C]⟩ 1 cmp x y).2 (ix2 r c) = y (ix2 r f) := by
  have ha : ∀ e : Fin C, (ix2 r c : (⟨2, ![R, C]⟩ : Shape).Idx).along (1 : Fin 2) e = ix2 r e := fun e => by
    funext a
    match a with
    | ⟨0, _⟩ => rfl
    | ⟨1, _⟩ => rfl
  have hp : sortedFrom (fun a b : Fin C => cmp (x ((ix2 r c : (⟨2, ![R, C]⟩ : Shape).Idx).along (1 : Fin 2) a), y ((ix2 r c : (⟨2, ![R, C]⟩ : Shape).Idx).along (1 : Fin 2) a))
      (x ((ix2 r c : (⟨2, ![R, C]⟩ : Shape).Idx).along (1 : Fin 2) b), y ((ix2 r c : (⟨2, ![R, C]⟩ : Shape).Idx).along (1 : Fin 2) b)) == 1#1) c = f := by
    simp only [ha]; exact h
  unfold Host.sort2
  rw [dif_pos (show 1 < (⟨2, ![R, C]⟩ : Shape).rank from Nat.one_lt_two)]
  exact ⟨(congrArg (fun f => x ((ix2 r c : (⟨2, ![R, C]⟩ : Shape).Idx).along (1 : Fin 2) f)) hp).trans (congrArg x (ha f)),
    (congrArg (fun f => y ((ix2 r c : (⟨2, ![R, C]⟩ : Shape).Idx).along (1 : Fin 2) f)) hp).trans (congrArg y (ha f))⟩

theorem topK_at (x : S16384x16.Idx → EReal) (r : Fin 16384) (k : Fin 2) (i : Fin 2 → Fin 16)
    (h : sortedFrom (fun a b : Fin 16 => Ideal.cmpTotal .gt (x (ix2 r a)) (x (ix2 r b)) == 1#1) (k.castLE (by decide)) = i k) :
    (Host.topK S16384x2 1 (Ideal.cmpTotal .gt) x Gen.sliceFits_S16384x16_S16384x2).1 (ix2 r k) = x (ix2 r (i k))
      ∧ (Host.topK S16384x2 1 (Ideal.cmpTotal .gt) x Gen.sliceFits_S16384x16_S16384x2).2 (ix2 r k) = BitVec.ofNat 32 (i k).val := by
  unfold Host.topK
  dsimp only
  rw [cut_at, cut_at]
  exact sort_at _ _ _ r _ (i k) h

theorem v46 (r : Fin 16384) (k : Fin 2) : StableHlo.after part1.1 V (Proc.devRef .tc main_v46) (ix2 r k)
    = Ideal.div (V (Proc.devRef .tc main_values) (ix2 r k)) (∑ x, V (Proc.devRef .tc main_values) (ix2 r x) : EReal) := by
  simp only [part1]; after_results
  pointwise!

end Cert.Proof.Ref
-- ==== Proof.RefCount.lean ====
module

public import proofs.«01_k».proof.Proof.RefVals

@[expose] public section

set_option maxRecDepth 65536
set_option pp.maxSteps 600

/-! The reference's statistics, each as a function of the scores and the dispatch array. -/

noncomputable section
namespace Cert.Proof.Ref
open Idealize.ShloMosaic Idealize.ShloMosaic.TcCoe Idealize.SL.Sem
open Cert.ReferenceIdeal
variable (V : ∀ b : DevRef τ sig, b.ty.Contents (Elt Ideal))

/-- A buffer read under a called function's name for it. -/
theorem read_of (r : Ref sig .tc) (h1 : r.ty = r.ty) (h2) (h3) (v : r.ty.Contents (Elt Ideal)) :
    (StableHlo.TRef.of (T := r.ty) r h1 h2 h3).ofBuf v = v := rfl
/-- A buffer written under a called function's name for it. -/
theorem write_of (r : Ref sig .tc) (h1 : r.ty = r.ty) (h2) (h3) (v : r.ty.Contents (Elt Ideal)) :
    (StableHlo.TRef.of (T := r.ty) r h1 h2 h3).toBuf v = v := rfl

/-- The totals of the reference's scores. -/
def totals (e : Fin 16) : EReal := ∑ r : Fin 16384, V (Proc.devRef .tc main_v42) (ix2 r e)
/-- The pick counts of the reference. -/
def counts (e : Fin 16) : EReal := ∑ r : Fin 16384, ∑ k : Fin 2, if V (Proc.devRef .tc main_v74) (ix3 r e k) = 1#1 then 1 else 0

/-- The word of a test, as a number. -/
theorem bit_one (b : BitVec 1) : (FloatOps.uitofp (F := Ideal) .f32 b : EReal) = if b = 1#1 then 1 else 0 := by
  have h : b = 0#1 ∨ b = 1#1 := by revert b; decide
  rcases h with rfl | rfl <;> simp [FloatOps.uitofp]

/-- The sum of the dispatch array over rows and choices. -/
theorem counts_at (h : S16384x16x2.ReducesTo [0, 2] S16) (h' : 0 < S_.numel) (e : Fin 16) :
    Host.reduceAdd (F := Ideal) (φ := .f32) (s := S16384x16x2) (uitofp .f32 (V (Proc.devRef .tc main_v74))) (constant S_ .f32 0x00000000#32) h h' (ix1 e) = counts V e := by
  refine (hostReduceAdd_first_last _ _ _ e).trans ?_
  refine (congrArg (· + _) (Ideal.ofBits_zero .f32)).trans ((zero_add _).trans ?_)
  exact Finset.sum_congr rfl fun r _ => Finset.sum_congr rfl fun k _ => bit_one _

theorem share_form (U : FVec Ideal S16 .f32) (h) (h1) (h2 : 0 < S_.numel) (e : Fin 16) :
    Host.divf U (broadcastInDim S16 ![] h (addf (Host.reduceAdd (t := S_) (axes := [0]) U (constant S_ .f32 0#32) h1 h2) (constant S_ .f32 786163455#32))) (ix1 e)
      = Row.share (fun e => U (ix1 e)) e := by
  pointwise
  rfl

theorem v103 (e : Fin 16) : StableHlo.after part2.1 V (Proc.devRef .tc main_v103) (ix1 e) = Row.share (counts V) e := by
  simp only [part2]; after_results
  generalize hU : Host.reduceAdd (F := Ideal) (φ := .f32) (s := S16384x16x2) (t := S16) (axes := [0, 2]) (uitofp .f32 (V (Proc.devRef .tc main_v74))) _ _ _ = U
  have hU' : (fun e => U (ix1 e)) = counts V := by
    funext e; rw [← hU]; exact counts_at V _ _ e
  rw [← hU']
  exact share_form ..

end Cert.Proof.Ref
-- ==== Proof.RefLoad.lean ====
module

public import proofs.«01_k».proof.Proof.RefCount

@[expose] public section

set_option maxRecDepth 65536
set_option pp.maxSteps 600

/-! The reference's statistics, each as a function of the scores and the dispatch array. -/

noncomputable section
namespace Cert.Proof.Ref
open Idealize.ShloMosaic Idealize.ShloMosaic.TcCoe Idealize.SL.Sem
open Cert.ReferenceIdeal
variable (V : ∀ b : DevRef τ sig, b.ty.Contents (Elt Ideal))

/-- The load loss, from the counts and the scores. -/
theorem load_form (U : FVec Ideal S16 .f32) (S : FVec Ideal S16384x16 .f32) (h1 : S16.ReducesTo [0] S_) (h2 h2' h2'' : 0 < S_.numel)
    (h3 : S16384x16.ReducesTo [0] S16) (h4 h5) :
    minimumf (constant S_ .f32 1092616192#32) (maximumf (constant S_ .f32 0#32) (mulf
      (Host.reduceAdd (t := S_) (axes := [0]) (mulf
        (Host.divf (Host.reduceAdd (t := S16) (axes := [0]) S (constant S_ .f32 0#32) h3 h2) (broadcastInDim S16 ![] h4 (constant S_ .f32 1182793728#32)))
        (Host.divf U (broadcastInDim S16 ![] h5 (addf (Host.reduceAdd (t := S_) (axes := [0]) U (constant S_ .f32 0#32) h1 h2') (constant S_ .f32 786163455#32)))))
        (constant S_ .f32 0#32) h1 h2'') (constant S_ .f32 1098907648#32))) ix0
      = Row.loadLoss (fun e => U (ix1 e)) (fun e => ∑ r, S (ix2 r e)) := by
  pointwise
  simp only [Row.loadLoss, Row.mean, Row.share]

theorem v110 : StableHlo.after part2.1 V (Proc.devRef .tc main_v110) ix0 = Row.loadLoss (counts V) (totals V) := by
  simp only [part2]; after_results
  generalize hU : Host.reduceAdd (F := Ideal) (φ := .f32) (s := S16384x16x2) (t := S16) (axes := [0, 2]) (uitofp .f32 (V (Proc.devRef .tc main_v74))) _ _ _ = U
  have hU' : (fun e => U (ix1 e)) = counts V := by
    funext e; rw [← hU]; exact counts_at V _ _ e
  rw [← hU']
  clear hU' hU
  simp only [StableHlo.TRef.ofBuf_toBuf, id]
  erw [read_of main_v109 rfl (by decide) rfl, write_of main_v110 rfl (by decide) rfl, read_of main_cst_36 rfl (by decide) rfl, read_of main_cst_37 rfl (by decide) rfl]
  exact load_form ..
end Cert.Proof.Ref
-- ==== Proof.RefTail.lean ====
module

public import proofs.«01_k».proof.Proof.RefCount

@[expose] public section

set_option maxRecDepth 65536

/-! The reference's statistics, each as a function of the scores and the dispatch array. -/

noncomputable section
namespace Cert.Proof.Ref
open Idealize.ShloMosaic Idealize.ShloMosaic.TcCoe Idealize.SL.Sem
open Cert.ReferenceIdeal
variable (V : ∀ b : DevRef τ sig, b.ty.Contents (Elt Ideal))

/-- The number of experts is positive, read as a number less zero. -/
theorem sixteen : (0 : EReal) < Ideal.ofBits .f32 0x41800000#32 ∧ Ideal.ofBits .f32 0x41800000#32 - FloatOps.sitofp (F := Ideal) .f32 0#32 = Ideal.ofBits .f32 0x41800000#32 := by
  constructor
  · have h : Ideal.ofBits .f32 0x41800000#32 = ((16 : ℝ) : EReal) := by
      simp [Ideal.ofBits, Ideal.ieee]
      rw [← EReal.coe_mul]
      norm_num
    rw [h]
    exact_mod_cast (by norm_num : (0 : ℝ) < 16)
  · simp [FloatOps.sitofp]

theorem v120 : StableHlo.after part2.1 V (Proc.devRef .tc main_v120) ix0 = Row.importance (totals V) := by
  simp only [part2]; after_results
  simp only [StableHlo.TRef.ofBuf_toBuf, id]
  erw [read_of main_v113 rfl (by decide) rfl, write_of main_v114 rfl (by decide) rfl, read_of main_c_40 rfl (by decide) rfl, read_of main_v119 rfl (by decide) rfl,
    write_of main_v120 rfl (by decide) rfl, read_of main_cst_44 rfl (by decide) rfl, read_of main_cst_45 rfl (by decide) rfl]
  pointwise!
  rw [sixteen.2, if_pos sixteen.1]
  rfl

theorem v126 (r : Fin 16384) : StableHlo.after part2.1 V (Proc.devRef .tc main_v126) (ix1 r) = -Row.plogp (fun e => V (Proc.devRef .tc main_v42) (ix2 r e)) := by
  simp only [part2]; after_results
  pointwise!

theorem cst48 : StableHlo.after part2.1 V (Proc.devRef .tc main_cst_48) = constant (F := Ideal) S_ .f32 0x00000000#32 := by
  simp only [part2]; after_results

theorem v133 (h : V (Proc.devRef .tc main_cst_48) = constant (F := Ideal) S_ .f32 0x00000000#32) :
    StableHlo.after part3.1 V (Proc.devRef .tc main_v133) ix0 = Row.entLoss (∑ r : Fin 16384, V (Proc.devRef .tc main_v126) (ix1 r)) := by
  simp only [part3]; after_results
  simp only [StableHlo.TRef.ofBuf_toBuf, id]
  rw [h]
  erw [read_of main_v132 rfl (by decide) rfl, write_of main_v133 rfl (by decide) rfl, read_of main_cst_53 rfl (by decide) rfl, read_of main_cst_54 rfl (by decide) rfl]
  pointwise!

theorem v156 : StableHlo.after part3.1 V (Proc.devRef .tc main_v156) ix0 = Row.spread (fun e => V (Proc.devRef .tc main_v103) (ix1 e)) := by
  simp only [part3]; after_results
  pointwise!

theorem v157 : StableHlo.after part3.1 V (Proc.devRef .tc main_v157)
    = shapeCast S4x4096x16x2 (V (Proc.devRef .tc main_v74)) Gen.shapeCasts_S16384x16x2_S4x4096x16x2 := by
  simp only [part3]; after_results; rfl

theorem v158 : StableHlo.after part3.1 V (Proc.devRef .tc main_v158)
    = shapeCast S4x4096x16x2 (V (Proc.devRef .tc main_v97)) Gen.shapeCasts_S16384x16x2_S4x4096x16x2 := by
  simp only [part3]; after_results; rfl

end Cert.Proof.Ref
-- ==== Proof.RefLse.lean ====
module

public import proofs.«01_k».proof.Proof.RefCount

@[expose] public section

set_option maxRecDepth 65536

/-! The reference's statistics, each as a function of the scores and the dispatch array. -/

noncomputable section
namespace Cert.Proof.Ref
open Idealize.ShloMosaic Idealize.ShloMosaic.TcCoe Idealize.SL.Sem
open Cert.ReferenceIdeal
variable (V : ∀ b : DevRef τ sig, b.ty.Contents (Elt Ideal))

theorem v150 (hs : ∀ r, ∃ y : ℝ, Row.top (fun e => V (Proc.devRef .tc main_v42) (ix2 r e)) = (y : EReal)) :
    StableHlo.after part3.1 V (Proc.devRef .tc main_v150) ix0 = Row.zLoss (∑ r : Fin 16384,
      Row.lse (fun e => V (Proc.devRef .tc main_v42) (ix2 r e)) * Row.lse (fun e => V (Proc.devRef .tc main_v42) (ix2 r e))) := by
  simp only [part3]; after_results
  simp only [StableHlo.TRef.ofBuf_toBuf, id]
  generalize hM : (StableHlo.TRef.of main_v139 _ _ _).toBuf (select _ _ _) = M
  have hM' : ∀ r, M (ix2 r 0) = Row.top (fun e => V (Proc.devRef .tc main_v42) (ix2 r e)) := by
    intro r
    rw [← hM]
    clear hM
    generalize hP : broadcastInDim (s := S16384) S16384x1 _ _ (Host.reduce (s := S16384x16) (t := S16384) (FloatOps.maximumf (F := Ideal) (φ := .f32)) (V (Proc.devRef .tc main_v42)) _ _ _) = P
    have hP' : P (ix2 r 0) = Row.top (fun e => V (Proc.devRef .tc main_v42) (ix2 r e)) := by
      rw [← hP]
      pointwise
      rfl
    clear hP
    rw [← hP']
    erw [write_of main_v139 rfl (by decide) rfl, read_of main_v135 rfl (by decide) rfl,read_of main_cst_57 rfl (by decide) rfl,  read_of main_v138 rfl (by decide) rfl]
    pointwise
    obtain ⟨y, hy⟩ := hs r
    rw [hP', hy]
    refine if_pos ?_
    rw [Row.posInf]
    exact max_lt (EReal.coe_lt_top y) (EReal.coe_lt_top (-y))
  clear hM
  generalize V (Proc.devRef .tc main_v42) = S at hM' ⊢
  erw [read_of main_v149 rfl (by decide) rfl, write_of main_v150 rfl (by decide) rfl, read_of main_cst_61 rfl (by decide) rfl, read_of main_cst_62 rfl (by decide) rfl]
  pointwise
  simp only [hM']
  unfold Row.zLoss Row.lse
  simp only [add_comm (Row.top _)]
end Cert.Proof.Ref
-- ==== Proof.RefAll.lean ====
module

public import proofs.«01_k».proof.Proof.RefRun
public import proofs.«01_k».proof.Proof.RefKeep
public import proofs.«01_k».proof.Proof.RefPicks
public import proofs.«01_k».proof.Proof.RefLoad
public import proofs.«01_k».proof.Proof.RefTail
public import proofs.«01_k».proof.Proof.RefLse

@[expose] public section

set_option maxRecDepth 65536
set_option pp.maxSteps 200

/-! The reference's results in terms of its rows' scores. -/

noncomputable section
namespace Cert.Proof.Ref
open Idealize.ShloMosaic Idealize.ShloMosaic.TcCoe Idealize.SL.Sem
open Cert.ReferenceIdeal
variable (W : ∀ b : DevRef τ sig, b.ty.Contents (Elt Ideal))

/-- The scores of a row. -/
def scoreRow (r : Fin 16384) : Row.Vals :=
  Row.score (fun x => (show EReal from V1 W (Proc.devRef .tc main_v2) (ix2 r x)) + (show EReal from V1 W (Proc.devRef .tc main_v20) (ix2 r x)))

theorem row2 (r : Fin 16384) : (fun e => (show EReal from V2 W (Proc.devRef .tc main_v42) (ix2 r e))) = scoreRow W r := funext fun e => v42 (V1 W) r e
theorem row3 (r : Fin 16384) : (fun e => (show EReal from V3 W (Proc.devRef .tc main_v42) (ix2 r e))) = scoreRow W r := by
  rw [← row2]; unfold V3; rw [keep1_v42]
theorem row4 (r : Fin 16384) : (fun e => (show EReal from V4 W (Proc.devRef .tc main_v42) (ix2 r e))) = scoreRow W r := by
  rw [← row3]; unfold V4; rw [keep2_v42]

/-- The expert each choice of a row picks. -/
theorem exists_choice (r : Fin 16384) : ∃ i : Fin 2 → Fin 16, (∀ k, Row.pick (scoreRow W r) k = BitVec.ofNat 32 (i k).val)
    ∧ (∀ k, Row.best (scoreRow W r) k = scoreRow W r (i k))
    ∧ ∀ k, sortedFrom (fun a b : Fin 16 => Ideal.cmpTotal .gt (scoreRow W r a) (scoreRow W r b) == 1#1) (k.castLE (by decide)) = i k := by
  obtain ⟨i, h1, h2, h3, h4, h5, h6, h7⟩ := Row.exists_picks (scoreRow W r) (fun x => Row.score_ne_bot _ x)
  exact ⟨i, h1, h2, fun k => Row.sorted_picks _ i h3 h4 h5 h6 h7 k⟩

/-- The expert a choice of a row picks. -/
def choice (r : Fin 16384) : Fin 2 → Fin 16 := (exists_choice W r).choose
theorem choice_pick (r k) : Row.pick (scoreRow W r) k = BitVec.ofNat 32 (choice W r k).val := (exists_choice W r).choose_spec.1 k
theorem choice_best (r k) : Row.best (scoreRow W r) k = scoreRow W r (choice W r k) := (exists_choice W r).choose_spec.2.1 k
theorem choice_sorted (r) (k : Fin 2) : sortedFrom (fun a b : Fin 16 => Ideal.cmpTotal .gt (scoreRow W r a) (scoreRow W r b) == 1#1) (k.castLE (by decide)) = choice W r k :=
  (exists_choice W r).choose_spec.2.2 k

theorem tops (r : Fin 16384) (k : Fin 2) : V2 W (Proc.devRef .tc main_values) (ix2 r k) = Row.best (scoreRow W r) k
    ∧ V2 W (Proc.devRef .tc main_indices) (ix2 r k) = BitVec.ofNat 32 (choice W r k).val := by
  have hrow := row2 W r
  have h := topK_at (V2 W (Proc.devRef .tc main_v42)) r k (choice W r) (by
    have := choice_sorted W r k
    rw [← hrow] at this
    exact this)
  constructor
  · refine (congrFun (values0 (V1 W)) (ix2 r k)).trans (h.1.trans ?_)
    rw [choice_best]
    exact congrFun hrow _
  · exact (congrFun (indices0 (V1 W)) (ix2 r k)).trans h.2

theorem pick_if (i e : Fin 16) : IntOp.cmpi .eq (BitVec.ofNat 32 e.val) (BitVec.ofNat 32 i.val) = if i = e then 1#1 else 0#1 := by
  have h : IntOp.cmpi .eq (BitVec.ofNat 32 e.val) (BitVec.ofNat 32 i.val) = 1#1 ↔ e = i := (Row.cmpi_eq_iff _ _).trans (Row.ofNat_inj e i)
  by_cases hi : i = e
  · rw [if_pos hi]; exact h.mpr hi.symm
  · rw [if_neg hi]
    have h' := mt h.mp (fun q => hi q.symm)
    generalize IntOp.cmpi .eq (BitVec.ofNat 32 e.val) (BitVec.ofNat 32 i.val) = b at h'
    revert b; decide

theorem disp3 (r : Fin 16384) (e : Fin 16) (k : Fin 2) : V3 W (Proc.devRef .tc main_v74) (ix3 r e k) = Row.hit (scoreRow W r) e k := by
  refine (congrFun (v74_eq (V2 W)) (ix3 r e k)).trans ?_
  rw [place_at (choice W) (fun _ => 0#1) _ (fun _ => 1#1) (v72_0 (V2 W)) (fun r k => v72_1 (V2 W) r k _ (tops W r k).2) (v72_2 (V2 W)) r e k]
  unfold Row.hit
  rw [choice_pick, pick_if]

theorem weight3 (r : Fin 16384) (k : Fin 2) : V3 W (Proc.devRef .tc main_v46) (ix2 r k) = Row.weight (scoreRow W r) k := by
  refine (v46 (V2 W) r k).trans ?_
  unfold Row.weight
  refine congrArg₂ Ideal.div (tops W r k).1 ?_
  rw [Fin.sum_univ_two]
  exact congrArg₂ (fun a b : EReal => a + b) (tops W r 0).1 (tops W r 1).1

theorem comb4 (r : Fin 16384) (e : Fin 16) (k : Fin 2) : V4 W (Proc.devRef .tc main_v97) (ix3 r e k) = Row.comb (scoreRow W r) e k := by
  refine (congrFun (v97_eq (V3 W)) (ix3 r e k)).trans ?_
  rw [place_at (choice W) _ _ _ (fun r k => v96_0 (V3 W) r k (v80 (V2 W) r))
    (fun r k => v96_1 (V3 W) r k _ (v85 (V2 W) r k _ (tops W r k).2)) (fun r k => v96_2 (V3 W) r k (v50 (V2 W) k) (v87 (V2 W) k)) r e k]
  unfold Row.comb Row.hit
  rw [choice_pick, pick_if]
  by_cases h : choice W r k = e
  · rw [if_pos h, if_pos h, if_pos rfl]; exact weight3 W r k
  · rw [if_neg h, if_neg h, if_neg (by decide)]; exact v75 (V2 W) r e k

theorem counts3 : counts (V3 W) = fun e => ∑ r, ∑ k, Row.one (scoreRow W r) e k := by
  funext e
  unfold counts Row.one
  refine Finset.sum_congr rfl fun r _ => Finset.sum_congr rfl fun k _ => ?_
  rw [disp3]
theorem totals3 : totals (V3 W) = fun e => ∑ r, scoreRow W r e := by
  funext e
  unfold totals
  exact Finset.sum_congr rfl fun r _ => congrFun (row3 W r) e

/-- How often each expert is picked. -/
def picks (e : Fin 16) : EReal := ∑ r, ∑ k, Row.one (scoreRow W r) e k
/-- The sum of each expert's scores. -/
def total (e : Fin 16) : EReal := ∑ r, scoreRow W r e

theorem share5 (e : Fin 16) : V5 W (Proc.devRef .tc main_v103) (ix1 e) = Row.share (picks W) e := by
  refine (congrFun (keep3_v103 (V4 W)) (ix1 e)).trans ((v103 (V3 W) e).trans ?_)
  rw [counts3]; rfl
theorem load5 : V5 W (Proc.devRef .tc main_v110) ix0 = Row.loadLoss (picks W) (total W) := by
  refine (congrFun (keep3_v110 (V4 W)) ix0).trans ((v110 (V3 W)).trans ?_)
  rw [counts3, totals3]; rfl
theorem importance5 : V5 W (Proc.devRef .tc main_v120) ix0 = Row.importance (total W) := by
  refine (congrFun (keep3_v120 (V4 W)) ix0).trans ((v120 (V3 W)).trans ?_)
  rw [totals3]; rfl
theorem lse5 : V5 W (Proc.devRef .tc main_v150) ix0 = Row.zLoss (∑ r, Row.lse (scoreRow W r) * Row.lse (scoreRow W r)) := by
  refine (v150 (V4 W) fun r => ?_).trans ?_
  · have h := row4 W r
    refine (Row.top_score_real (fun x => (show EReal from V1 W (Proc.devRef .tc main_v2) (ix2 r x)) + (show EReal from V1 W (Proc.devRef .tc main_v20) (ix2 r x)))).imp fun y hy => ?_
    exact (congrArg Row.top h).trans hy
  · refine congrArg Row.zLoss (Finset.sum_congr rfl fun r _ => ?_)
    exact congrArg (fun s => Row.lse s * Row.lse s) (row4 W r)
theorem ent5 : V5 W (Proc.devRef .tc main_v133) ix0 = Row.entLoss (∑ r, -Row.plogp (scoreRow W r)) := by
  refine (v133 (V4 W) (cst48 (V3 W))).trans (congrArg Row.entLoss (Finset.sum_congr rfl fun r _ => ?_))
  exact (v126 (V3 W) r).trans (congrArg (fun s => -Row.plogp s) (row3 W r))
theorem spread5 : V5 W (Proc.devRef .tc main_v156) ix0 = Row.spread (fun e => Row.share (picks W) e) := by
  refine (v156 (V4 W)).trans (congrArg Row.spread (funext fun e => ?_))
  refine (v103 (V3 W) e).trans ?_
  rw [counts3]; rfl
theorem disp5 : V5 W (Proc.devRef .tc main_v157)
    = shapeCast S4x4096x16x2 (fun i : S16384x16x2.Idx => Row.hit (scoreRow W (i 0)) (i 1) (i 2)) Gen.shapeCasts_S16384x16x2_S4x4096x16x2 := by
  refine (v157 (V4 W)).trans (congrArg (fun x => shapeCast S4x4096x16x2 x Gen.shapeCasts_S16384x16x2_S4x4096x16x2) (funext fun i => ?_))
  refine (congrFun (keep2_v74 (V3 W)) i).trans ?_
  obtain ⟨r, e, k, rfl⟩ : ∃ r e k, i = ix3 r e k := ⟨i 0, i 1, i 2, funext fun a => match a with | ⟨0, _⟩ => rfl | ⟨1, _⟩ => rfl | ⟨2, _⟩ => rfl⟩
  exact disp3 W r e k
theorem comb5 : V5 W (Proc.devRef .tc main_v158)
    = shapeCast S4x4096x16x2 (fun i : S16384x16x2.Idx => Row.comb (scoreRow W (i 0)) (i 1) (i 2)) Gen.shapeCasts_S16384x16x2_S4x4096x16x2 := by
  refine (v158 (V4 W)).trans (congrArg (fun x => shapeCast S4x4096x16x2 x Gen.shapeCasts_S16384x16x2_S4x4096x16x2) (funext fun i => ?_))
  obtain ⟨r, e, k, rfl⟩ : ∃ r e k, i = ix3 r e k := ⟨i 0, i 1, i 2, funext fun a => match a with | ⟨0, _⟩ => rfl | ⟨1, _⟩ => rfl | ⟨2, _⟩ => rfl⟩
  exact comb4 W r e k

theorem arg0_5 : V5 W (Proc.devRef .tc main_arg0) = V1 W (Proc.devRef .tc main_arg0) :=
  (keep3_arg0 (V4 W)).trans ((keep2_arg0 (V3 W)).trans ((keep1_arg0 (V2 W)).trans (keep0_arg0 (V1 W))))
theorem arg1_5 : V5 W (Proc.devRef .tc main_arg1) = V1 W (Proc.devRef .tc main_arg1) :=
  (keep3_arg1 (V4 W)).trans ((keep2_arg1 (V3 W)).trans ((keep1_arg1 (V2 W)).trans (keep0_arg1 (V1 W))))

end Cert.Proof.Ref
-- ==== Proof.RefDot.lean ====
module

public import proofs.«01_k».proof.Proof.RefVals

@[expose] public section

set_option maxRecDepth 65536
set_option pp.maxSteps 100

/-! The products the reference's first part computes, and the arguments it leaves alone. -/

noncomputable section
namespace Cert.Proof.Ref
open Idealize.ShloMosaic Idealize.ShloMosaic.TcCoe Idealize.SL.Sem
open Cert.ReferenceIdeal
variable (V : ∀ b : DevRef τ sig, b.ty.Contents (Elt Ideal))

set_option maxHeartbeats 4000000

theorem keepN_arg0 : StableHlo.after part0.1.1 V (Proc.devRef .tc main_arg0) = V (Proc.devRef .tc main_arg0) := by
  simp only [part0]; after_results
theorem keepN_arg1 : StableHlo.after part0.1.1 V (Proc.devRef .tc main_arg1) = V (Proc.devRef .tc main_arg1) := by
  simp only [part0]; after_results

theorem v2 (r : Fin 16384) (e : Fin 16) : StableHlo.after part0.1.1 V (Proc.devRef .tc main_v2) (ix2 r e)
    = ∑ k : Fin 2048, (show EReal from shapeCast S16384x2048 (V (Proc.devRef .tc main_arg0)) Gen.shapeCasts_S4x4096x2048_S16384x2048 (ix2 r k))
        * (show EReal from V (Proc.devRef .tc main_arg1) (ix2 e k)) := by
  simp only [part0]; after_results
  pointwise!
end Cert.Proof.Ref
-- ==== Proof.Same.lean ====
module

public import proofs.«01_k».proof.Proof.KEntry
public import proofs.«01_k».proof.Proof.Noise
public import proofs.«01_k».proof.Proof.RefAll
public import proofs.«01_k».proof.Proof.RefDot

@[expose] public section

set_option maxRecDepth 16384
set_option pp.maxSteps 300

/-!
The two programs' rows have the same scores.
-/

noncomputable section
namespace Cert.Proof
open Idealize.ShloMosaic Idealize.ShloMosaic.TcCoe Idealize.SL.Sem
open Cert.KernelIdeal.Gen (wgt nse V entry_v0 entry_v19)

variable (m : (ℓ : Loc Cert.KernelIdeal.nD Cert.KernelIdeal.τ Cert.KernelIdeal.sig) → Buf (Elt Ideal) ℓ) (c : Dev Cert.KernelIdeal.nD)
  (W : ∀ b : DevRef Cert.ReferenceIdeal.τ Cert.ReferenceIdeal.sig, b.ty.Contents (Elt Ideal))

theorem wgt_at (k : Fin 2048) (e : Fin 16) : wgt m c k e = (show EReal from (show Vec Ideal Cert.KernelIdeal.S16x2048 .f32 from m ((c.tc : Thread Cert.KernelIdeal.nD Cert.KernelIdeal.τ).loc Cert.KernelIdeal.main_arg1)) (ix2 e k)) := by
  unfold wgt
  rw [entry_v19]
  generalize m ((c.tc : Thread Cert.KernelIdeal.nD Cert.KernelIdeal.τ).loc Cert.KernelIdeal.main_arg1) = x
  pointwise

theorem hidden_at (R : Fin 16384) (k : Fin 2048) : Cert.KernelIdeal.Gen.hidden m c R k
    = (show EReal from shapeCast Cert.KernelIdeal.S16384x2048 (m ((c.tc : Thread Cert.KernelIdeal.nD Cert.KernelIdeal.τ).loc Cert.KernelIdeal.main_arg0)) Cert.KernelIdeal.Gen.shapeCasts_S4x4096x2048_S16384x2048 (ix2 R k)) := by
  unfold Cert.KernelIdeal.Gen.hidden
  rw [entry_v0]

theorem nse_at (R : Fin 16384) (e : Fin 16) : nse m c R e = (show EReal from Ref.V1 W (Proc.devRef .tc Cert.ReferenceIdeal.main_v20) (ix2 R e)) := by
  have h := Noise.noise W (fun b => m (c, b))
  exact (congrFun h (ix2 R e)).symm

/-- From equal arguments, every row has the same scores in the two programs. -/
theorem same (h0 : W (Proc.devRef .tc Cert.ReferenceIdeal.main_arg0) = m ((c.tc : Thread Cert.KernelIdeal.nD Cert.KernelIdeal.τ).loc Cert.KernelIdeal.main_arg0))
    (h1 : W (Proc.devRef .tc Cert.ReferenceIdeal.main_arg1) = m ((c.tc : Thread Cert.KernelIdeal.nD Cert.KernelIdeal.τ).loc Cert.KernelIdeal.main_arg1))
    (R : Fin 16384) : Ref.scoreRow W R = Cert.KernelIdeal.Gen.scoreRow m c R := by
  unfold Ref.scoreRow Cert.KernelIdeal.Gen.scoreRow
  refine congrArg Row.score (funext fun e => ?_)
  have hd : (show EReal from Ref.V1 W (Proc.devRef .tc Cert.ReferenceIdeal.main_v2) (ix2 R e)) = (∑ k : Fin 2048, Cert.KernelIdeal.Gen.hidden m c R k * wgt m c k e : EReal) := by
    have hs : (∑ k : Fin 2048, (show EReal from shapeCast Cert.ReferenceIdeal.S16384x2048 (W (Proc.devRef .tc Cert.ReferenceIdeal.main_arg0)) Cert.ReferenceIdeal.Gen.shapeCasts_S4x4096x2048_S16384x2048 (ix2 R k))
        * (show EReal from W (Proc.devRef .tc Cert.ReferenceIdeal.main_arg1) (ix2 e k)) : EReal) = ∑ k : Fin 2048, Cert.KernelIdeal.Gen.hidden m c R k * wgt m c k e :=
      Finset.sum_congr rfl fun k _ => by rw [wgt_at, hidden_at, h0, h1]
    exact (Ref.v2 W R e).trans hs
  exact congrArg₂ (fun a b : EReal => a + b) hd (nse_at m c W R e).symm

end Cert.Proof
-- ==== Proof.Algebraic.lean ====
module

public import proofs.«01_k».proof.Defs
public import proofs.«01_k».proof.Proof.KRun
public import proofs.«01_k».proof.Proof.Same
public import proofs.«01_k».proof.Proof.RefRun

@[expose] public section

set_option maxRecDepth 16384
set_option pp.maxSteps 300

/-!
The two programs end with equal results.
-/

noncomputable section
namespace Cert.Proof
open Idealize.ShloMosaic Idealize.ShloMosaic.TcCoe Idealize.SL.Sem
open Cert.KernelIdeal.Gen (left hostOps1)

section
variable (m : (ℓ : Loc Cert.KernelIdeal.nD Cert.KernelIdeal.τ Cert.KernelIdeal.sig) → Buf (Elt Ideal) ℓ) (c : Dev Cert.KernelIdeal.nD)
  (W : ∀ b : DevRef Cert.ReferenceIdeal.τ Cert.ReferenceIdeal.sig, b.ty.Contents (Elt Ideal))
  (h : Ref.scoreRow W = Cert.KernelIdeal.Gen.scoreRow m c)
include h

theorem picks_eq : Ref.picks W = Cert.KernelIdeal.Gen.picks m c := by
  unfold Ref.picks Cert.KernelIdeal.Gen.picks; rw [h]
theorem total_eq : Ref.total W = Cert.KernelIdeal.Gen.total m c := by
  unfold Ref.total Cert.KernelIdeal.Gen.total; rw [h]

theorem eq0 : Ref.V5 W (Proc.devRef .tc Cert.ReferenceIdeal.main_v157) = StableHlo.after (hostOps1 (F := Ideal)) (left m c) (Proc.devRef .tc Cert.KernelIdeal.main_v24) := by
  refine (Ref.disp5 W).trans ?_
  rw [h]
  exact ((Cert.KernelIdeal.Gen.res24 m c).trans (Cert.KernelIdeal.Gen.lanes_eq (fun R e k => Row.hit (Cert.KernelIdeal.Gen.scoreRow m c R) e k) _)).symm
theorem eq1 : Ref.V5 W (Proc.devRef .tc Cert.ReferenceIdeal.main_v158) = StableHlo.after (hostOps1 (F := Ideal)) (left m c) (Proc.devRef .tc Cert.KernelIdeal.main_v25) := by
  refine (Ref.comb5 W).trans ?_
  rw [h]
  exact ((Cert.KernelIdeal.Gen.res25 m c).trans (Cert.KernelIdeal.Gen.lanes_eq (fun R e k => Row.comb (Cert.KernelIdeal.Gen.scoreRow m c R) e k) _)).symm
theorem eq2 : Ref.V5 W (Proc.devRef .tc Cert.ReferenceIdeal.main_v110) = StableHlo.after (hostOps1 (F := Ideal)) (left m c) (Proc.devRef .tc Cert.KernelIdeal.main_v26) := by
  refine Eq.trans ?_ (Cert.KernelIdeal.Gen.res26 m c).symm
  rw [← picks_eq m c W h, ← total_eq m c W h]
  exact funext fun i => (congrArg (Ref.V5 W (Proc.devRef .tc Cert.ReferenceIdeal.main_v110)) (funext fun a => a.elim0)).trans (Ref.load5 W)
theorem eq3 : Ref.V5 W (Proc.devRef .tc Cert.ReferenceIdeal.main_v120) = StableHlo.after (hostOps1 (F := Ideal)) (left m c) (Proc.devRef .tc Cert.KernelIdeal.main_v27) := by
  refine Eq.trans ?_ (Cert.KernelIdeal.Gen.res27 m c).symm
  rw [← total_eq m c W h]
  exact funext fun i => (congrArg (Ref.V5 W (Proc.devRef .tc Cert.ReferenceIdeal.main_v120)) (funext fun a => a.elim0)).trans (Ref.importance5 W)
theorem eq4 : Ref.V5 W (Proc.devRef .tc Cert.ReferenceIdeal.main_v150) = StableHlo.after (hostOps1 (F := Ideal)) (left m c) (Proc.devRef .tc Cert.KernelIdeal.main_v28) := by
  refine Eq.trans ?_ (Cert.KernelIdeal.Gen.res28 m c).symm
  rw [← h]
  exact funext fun i => (congrArg (Ref.V5 W (Proc.devRef .tc Cert.ReferenceIdeal.main_v150)) (funext fun a => a.elim0)).trans (Ref.lse5 W)
theorem eq5 : Ref.V5 W (Proc.devRef .tc Cert.ReferenceIdeal.main_v133) = StableHlo.after (hostOps1 (F := Ideal)) (left m c) (Proc.devRef .tc Cert.KernelIdeal.main_v29) := by
  refine Eq.trans ?_ (Cert.KernelIdeal.Gen.res29 m c).symm
  rw [← h]
  exact funext fun i => (congrArg (Ref.V5 W (Proc.devRef .tc Cert.ReferenceIdeal.main_v133)) (funext fun a => a.elim0)).trans (Ref.ent5 W)
theorem eq6 : Ref.V5 W (Proc.devRef .tc Cert.ReferenceIdeal.main_v103) = StableHlo.after (hostOps1 (F := Ideal)) (left m c) (Proc.devRef .tc Cert.KernelIdeal.main_v30) := by
  refine Eq.trans ?_ (Cert.KernelIdeal.Gen.res30 m c).symm
  rw [← picks_eq m c W h]
  exact funext fun i => (congrArg (Ref.V5 W (Proc.devRef .tc Cert.ReferenceIdeal.main_v103))
    (show i = ix1 (i 0) from funext fun a => match a with | ⟨0, _⟩ => rfl)).trans (Ref.share5 W (i 0))
theorem eq7 : Ref.V5 W (Proc.devRef .tc Cert.ReferenceIdeal.main_v156) = StableHlo.after (hostOps1 (F := Ideal)) (left m c) (Proc.devRef .tc Cert.KernelIdeal.main_v31) := by
  refine Eq.trans ?_ (Cert.KernelIdeal.Gen.res31 m c).symm
  rw [← picks_eq m c W h]
  exact funext fun i => (congrArg (Ref.V5 W (Proc.devRef .tc Cert.ReferenceIdeal.main_v156)) (funext fun a => a.elim0)).trans (Ref.spread5 W)
end

/-- From equal arguments the kernel and the reference end with equal results and their arguments unchanged. -/
theorem algebraic : letI := Cert.KernelIdeal.Gen.facts; letI := Cert.ReferenceIdeal.Gen.facts; Cert.algebraic_KernelIdeal_ReferenceIdeal := by
  intro m g m' g' _ hagree
  have hs : ∀ c : Dev Cert.KernelIdeal.nD, Ref.scoreRow (StableHlo.launchContents m' c) = Cert.KernelIdeal.Gen.scoreRow m c := fun c =>
    funext fun R => same m c (StableHlo.launchContents m' c) (hagree c).1 (hagree c).2 R
  refine ⟨fun c => StableHlo.after (hostOps1 (F := Ideal)) (left m c) (Proc.devRef .tc Cert.KernelIdeal.main_v24),
    fun c => StableHlo.after (hostOps1 (F := Ideal)) (left m c) (Proc.devRef .tc Cert.KernelIdeal.main_v25),
    fun c => StableHlo.after (hostOps1 (F := Ideal)) (left m c) (Proc.devRef .tc Cert.KernelIdeal.main_v26),
    fun c => StableHlo.after (hostOps1 (F := Ideal)) (left m c) (Proc.devRef .tc Cert.KernelIdeal.main_v27),
    fun c => StableHlo.after (hostOps1 (F := Ideal)) (left m c) (Proc.devRef .tc Cert.KernelIdeal.main_v28),
    fun c => StableHlo.after (hostOps1 (F := Ideal)) (left m c) (Proc.devRef .tc Cert.KernelIdeal.main_v29),
    fun c => StableHlo.after (hostOps1 (F := Ideal)) (left m c) (Proc.devRef .tc Cert.KernelIdeal.main_v30),
    fun c => StableHlo.after (hostOps1 (F := Ideal)) (left m c) (Proc.devRef .tc Cert.KernelIdeal.main_v31), ?_, ?_⟩
  · refine θ_run_mono (Cert.KernelIdeal.Gen.run_left m g) fun r hr c => ?_
    obtain ⟨⟨ha, hb⟩, hr⟩ := hr c
    exact ⟨hr _ (by decide), hr _ (by decide), hr _ (by decide), hr _ (by decide), hr _ (by decide), hr _ (by decide), hr _ (by decide), hr _ (by decide), ha, hb⟩
  · refine θ_run_mono (Ref.run m' g') fun r hr c => ?_
    exact ⟨(hr c _).trans (eq0 m c _ (hs c)), (hr c _).trans (eq1 m c _ (hs c)), (hr c _).trans (eq2 m c _ (hs c)), (hr c _).trans (eq3 m c _ (hs c)),
      (hr c _).trans (eq4 m c _ (hs c)), (hr c _).trans (eq5 m c _ (hs c)), (hr c _).trans (eq6 m c _ (hs c)), (hr c _).trans (eq7 m c _ (hs c)),
      (hr c _).trans ((Ref.arg0_5 _).trans (Ref.keepN_arg0 _)), (hr c _).trans ((Ref.arg1_5 _).trans (Ref.keepN_arg1 _))⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Claim
public import proofs.«01_k».proof.Proof.Algebraic

@[expose] public section

noncomputable section

namespace Cert.Proof

open Idealize.ShloMosaic Idealize.SL.Sem Cert.Kernel

theorem frame_ref : Cert.quiescent_ReferenceIdeal := by
  intro m g _
  hlo_run
  · exact fun _ => ⟨trivial, trivial⟩
  exact sem_eq_zero_of_no_sems (sig := Cert.ReferenceIdeal.sig) (by decide) _

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_ref, trivial, algebraic⟩

end Cert.Proof
